-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![2, 2048, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S3 : Shape := ⟨1, ![3]⟩
abbrev S24 : Shape := ⟨1, ![24]⟩
abbrev S_ : Shape := ⟨0, ![]⟩
abbrev S1 : Shape := ⟨1, ![1]⟩
abbrev S256x768 : Shape := ⟨2, ![256, 768]⟩
abbrev S256x640 : Shape := ⟨2, ![256, 640]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .bf16⟩
  | .local _ .vmem, ⟨0, _⟩ => ⟨S1x2048, .f32⟩
  | .local _ .vmem, ⟨1, _⟩ => ⟨S2048x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_8 v2
  let c4_i32_10 : BitVec 32 := 4#32
  let v20 : BitVec 32 := Scalar.muli v19 c4_i32_10
  let v21 : BitVec 32 := Scalar.addi c0_i32 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v22 : BitVec 32 := Scalar.muli v5 c2_i32_11
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v24 : BitVec 32 := Scalar.muli v8 c1_i32_12
  let v25 : BitVec 32 := Scalar.addi v23 v24
  v25.toNat
def k0_dev2 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v27 : BitVec 32 := Scalar.muli v2 c4_i32_15
  let v28 : BitVec 32 := Scalar.addi c0_i32_16 v27
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.subi c1_i32_13 v5
  let c2_i32_17 : BitVec 32 := 2#32
  let v29 : BitVec 32 := Scalar.muli v26 c2_i32_17
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v31 : BitVec 32 := Scalar.muli v8 c1_i32_18
  let v32 : BitVec 32 := Scalar.addi v30 v31
  v32.toNat
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v34 : BitVec 32 := Scalar.muli v2 c4_i32_21
  let v35 : BitVec 32 := Scalar.addi c0_i32_22 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v36 : BitVec 32 := Scalar.muli v5 c2_i32_23
  let v37 : BitVec 32 := Scalar.addi v35 v36
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_19 v8
  let c1_i32_24 : BitVec 32 := 1#32
  let v38 : BitVec 32 := Scalar.muli v33 c1_i32_24
  let v39 : BitVec 32 := Scalar.addi v37 v38
  v39.toNat
def k0_off1 (d0 : Dev nD) : Fin 2 → Nat :=
  let c4_i32_6 : BitVec 32 := 4#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let v14 : BitVec 32 := Scalar.muli c4_i32_6 v13
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_7 v2
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c256_i32 : BitVec 32 := 256#32
  let v40 : BitVec 32 := Scalar.muli v17 c256_i32
  let c0_i32_28 : BitVec 32 := 0#32
  ![v40.toNat, 0]
def k0_off2 (d0 : Dev nD) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_25 : BitVec 32 := 256#32
  let v41 : BitVec 32 := Scalar.muli v12 c256_i32_25
  let c0_i32_30 : BitVec 32 := 0#32
  ![v41.toNat, 0]
def k0_dev4 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v61 : BitVec 32 := Scalar.muli v2 c4_i32_40
  let v62 : BitVec 32 := Scalar.addi c0_i32_41 v61
  let c1_i32_38 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v60 : BitVec 32 := Scalar.subi c1_i32_38 v5
  let c2_i32_42 : BitVec 32 := 2#32
  let v63 : BitVec 32 := Scalar.muli v60 c2_i32_42
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v65 : BitVec 32 := Scalar.muli v8 c1_i32_43
  let v66 : BitVec 32 := Scalar.addi v64 v65
  v66.toNat
def k0_dev5 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v74 : BitVec 32 := Scalar.muli v2 c4_i32_50
  let v75 : BitVec 32 := Scalar.addi c0_i32_51 v74
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_48 v5
  let c2_i32_52 : BitVec 32 := 2#32
  let v76 : BitVec 32 := Scalar.muli v73 c2_i32_52
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v78 : BitVec 32 := Scalar.muli v8 c1_i32_53
  let v79 : BitVec 32 := Scalar.addi v77 v78
  v79.toNat
def k0_dev6 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v87 : BitVec 32 := Scalar.muli v2 c4_i32_59
  let v88 : BitVec 32 := Scalar.addi c0_i32_60 v87
  let c1_i32_57 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v86 : BitVec 32 := Scalar.subi c1_i32_57 v5
  let c2_i32_61 : BitVec 32 := 2#32
  let v89 : BitVec 32 := Scalar.muli v86 c2_i32_61
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v91 : BitVec 32 := Scalar.muli v8 c1_i32_62
  let v92 : BitVec 32 := Scalar.addi v90 v91
  v92.toNat
def k0_off3 (d0 : Dev nD) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_97 : BitVec 32 := 256#32
  let v130 : BitVec 32 := Scalar.muli v12 c256_i32_97
  let v131 : Index := Scalar.indexCast v130
  let c0_98 : Index := 0#32
  ![v131.toNat, 0]
def k0_off4 (d0 : Dev nD) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_100 : BitVec 32 := 256#32
  let v134 : BitVec 32 := Scalar.muli v12 c256_i32_100
  let c0_i32_108 : BitVec 32 := 0#32
  ![v134.toNat, 0]
def k0_dev7 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v136 : BitVec 32 := Scalar.muli v2 c4_i32_104
  let v137 : BitVec 32 := Scalar.addi c0_i32_105 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v138 : BitVec 32 := Scalar.muli v5 c2_i32_106
  let v139 : BitVec 32 := Scalar.addi v137 v138
  let c1_i32_101 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v135 : BitVec 32 := Scalar.subi c1_i32_101 v8
  let c1_i32_107 : BitVec 32 := 1#32
  let v140 : BitVec 32 := Scalar.muli v135 c1_i32_107
  let v141 : BitVec 32 := Scalar.addi v139 v140
  v141.toNat
def k0_off5 (d0 : Dev nD) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_131 : BitVec 32 := 256#32
  let v168 : BitVec 32 := Scalar.muli v12 c256_i32_131
  let v169 : Index := Scalar.indexCast v168
  let c768_132 : Index := 768#32
  ![v169.toNat, 768]
def k0_off6 (d0 : Dev nD) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_134 : BitVec 32 := 256#32
  let v172 : BitVec 32 := Scalar.muli v12 c256_i32_134
  let c768_i32_142 : BitVec 32 := 768#32
  ![v172.toNat, 768]
def k0_dev8 (d0 : Dev nD) : Nat :=
  let c0_i32_139 : BitVec 32 := 0#32
  let c1_i32_135 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v173 : BitVec 32 := Scalar.subi c1_i32_135 v2
  let c4_i32_138 : BitVec 32 := 4#32
  let v174 : BitVec 32 := Scalar.muli v173 c4_i32_138
  let v175 : BitVec 32 := Scalar.addi c0_i32_139 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_140 : BitVec 32 := 2#32
  let v176 : BitVec 32 := Scalar.muli v5 c2_i32_140
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v178 : BitVec 32 := Scalar.muli v8 c1_i32_141
  let v179 : BitVec 32 := Scalar.addi v177 v178
  v179.toNat
def k0_off7 (d0 : Dev nD) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_165 : BitVec 32 := 256#32
  let v206 : BitVec 32 := Scalar.muli v12 c256_i32_165
  let v207 : Index := Scalar.indexCast v206
  let c1408_166 : Index := 1408#32
  ![v207.toNat, 1408]
def k0_off8 (d0 : Dev nD) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c256_i32_168 : BitVec 32 := 256#32
  let v210 : BitVec 32 := Scalar.muli v12 c256_i32_168
  let c1408_i32_176 : BitVec 32 := 1408#32
  ![v210.toNat, 1408]
def k0_dev9 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v212 : BitVec 32 := Scalar.muli v2 c4_i32_172
  let v213 : BitVec 32 := Scalar.addi c0_i32_173 v212
  let c1_i32_169 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v211 : BitVec 32 := Scalar.subi c1_i32_169 v5
  let c2_i32_174 : BitVec 32 := 2#32
  let v214 : BitVec 32 := Scalar.muli v211 c2_i32_174
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v216 : BitVec 32 := Scalar.muli v8 c1_i32_175
  let v217 : BitVec 32 := Scalar.addi v215 v216
  v217.toNat
def k0_dev10 (d0 : Dev nD) : Nat :=
  let c0_i32_198 : BitVec 32 := 0#32
  let c1_i32_192 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v239 : BitVec 32 := Scalar.subi c1_i32_192 v2
  let c4_i32_197 : BitVec 32 := 4#32
  let v242 : BitVec 32 := Scalar.muli v239 c4_i32_197
  let v243 : BitVec 32 := Scalar.addi c0_i32_198 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_199 : BitVec 32 := 2#32
  let v244 : BitVec 32 := Scalar.muli v5 c2_i32_199
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v246 : BitVec 32 := Scalar.muli v8 c1_i32_200
  let v247 : BitVec 32 := Scalar.addi v245 v246
  v247.toNat
def k0_off9 (d0 : Dev nD) (c1_i32_110 : BitVec 32) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let v148 : BitVec 32 := Scalar.xori v12 c1_i32_110
  let c256_i32_204 : BitVec 32 := 256#32
  let v255 : BitVec 32 := Scalar.muli v148 c256_i32_204
  let c0_i32_211 : BitVec 32 := 0#32
  ![v255.toNat, 0]
def k0_dev11 (d0 : Dev nD) : Nat :=
  let c0_i32_208 : BitVec 32 := 0#32
  let c1_i32_192 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v239 : BitVec 32 := Scalar.subi c1_i32_192 v2
  let c4_i32_207 : BitVec 32 := 4#32
  let v256 : BitVec 32 := Scalar.muli v239 c4_i32_207
  let v257 : BitVec 32 := Scalar.addi c0_i32_208 v256
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v258 : BitVec 32 := Scalar.muli v5 c2_i32_209
  let v259 : BitVec 32 := Scalar.addi v257 v258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v260 : BitVec 32 := Scalar.muli v8 c1_i32_210
  let v261 : BitVec 32 := Scalar.addi v259 v260
  v261.toNat
def k0_dev12 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_232 : BitVec 32 := 4#32
  let v287 : BitVec 32 := Scalar.muli v2 c4_i32_232
  let v288 : BitVec 32 := Scalar.addi c0_i32_233 v287
  let c1_i32_228 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v284 : BitVec 32 := Scalar.subi c1_i32_228 v5
  let c2_i32_234 : BitVec 32 := 2#32
  let v289 : BitVec 32 := Scalar.muli v284 c2_i32_234
  let v290 : BitVec 32 := Scalar.addi v288 v289
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_235 : BitVec 32 := 1#32
  let v291 : BitVec 32 := Scalar.muli v8 c1_i32_235
  let v292 : BitVec 32 := Scalar.addi v290 v291
  v292.toNat
def k0_off10 (d0 : Dev nD) (c2_i32_144 : BitVec 32) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let v186 : BitVec 32 := Scalar.xori v12 c2_i32_144
  let c256_i32_239 : BitVec 32 := 256#32
  let v300 : BitVec 32 := Scalar.muli v186 c256_i32_239
  let c768_i32_245 : BitVec 32 := 768#32
  ![v300.toNat, 768]
def k0_dev13 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v301 : BitVec 32 := Scalar.muli v2 c4_i32_241
  let v302 : BitVec 32 := Scalar.addi c0_i32_242 v301
  let c1_i32_228 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v284 : BitVec 32 := Scalar.subi c1_i32_228 v5
  let c2_i32_243 : BitVec 32 := 2#32
  let v303 : BitVec 32 := Scalar.muli v284 c2_i32_243
  let v304 : BitVec 32 := Scalar.addi v302 v303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v305 : BitVec 32 := Scalar.muli v8 c1_i32_244
  let v306 : BitVec 32 := Scalar.addi v304 v305
  v306.toNat
def k0_dev14 (d0 : Dev nD) : Nat :=
  let c0_i32_267 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_266 : BitVec 32 := 4#32
  let v332 : BitVec 32 := Scalar.muli v2 c4_i32_266
  let v333 : BitVec 32 := Scalar.addi c0_i32_267 v332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_268 : BitVec 32 := 2#32
  let v334 : BitVec 32 := Scalar.muli v5 c2_i32_268
  let v335 : BitVec 32 := Scalar.addi v333 v334
  let c1_i32_262 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v329 : BitVec 32 := Scalar.subi c1_i32_262 v8
  let c1_i32_269 : BitVec 32 := 1#32
  let v336 : BitVec 32 := Scalar.muli v329 c1_i32_269
  let v337 : BitVec 32 := Scalar.addi v335 v336
  v337.toNat
def k0_off11 (d0 : Dev nD) (c4_i32_178 : BitVec 32) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let v224 : BitVec 32 := Scalar.xori v12 c4_i32_178
  let c256_i32_273 : BitVec 32 := 256#32
  let v345 : BitVec 32 := Scalar.muli v224 c256_i32_273
  let c1408_i32_279 : BitVec 32 := 1408#32
  ![v345.toNat, 1408]
def k0_dev15 (d0 : Dev nD) : Nat :=
  let c0_i32_276 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_275 : BitVec 32 := 4#32
  let v346 : BitVec 32 := Scalar.muli v2 c4_i32_275
  let v347 : BitVec 32 := Scalar.addi c0_i32_276 v346
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_277 : BitVec 32 := 2#32
  let v348 : BitVec 32 := Scalar.muli v5 c2_i32_277
  let v349 : BitVec 32 := Scalar.addi v347 v348
  let c1_i32_262 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v329 : BitVec 32 := Scalar.subi c1_i32_262 v8
  let c1_i32_278 : BitVec 32 := 1#32
  let v350 : BitVec 32 := Scalar.muli v329 c1_i32_278
  let v351 : BitVec 32 := Scalar.addi v349 v350
  v351.toNat
def k0_dev16 (d0 : Dev nD) : Nat :=
  let c0_i32_314 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_313 : BitVec 32 := 4#32
  let v391 : BitVec 32 := Scalar.muli v2 c4_i32_313
  let v392 : BitVec 32 := Scalar.addi c0_i32_314 v391
  let c1_i32_309 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v388 : BitVec 32 := Scalar.subi c1_i32_309 v5
  let c2_i32_315 : BitVec 32 := 2#32
  let v393 : BitVec 32 := Scalar.muli v388 c2_i32_315
  let v394 : BitVec 32 := Scalar.addi v392 v393
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_316 : BitVec 32 := 1#32
  let v395 : BitVec 32 := Scalar.muli v8 c1_i32_316
  let v396 : BitVec 32 := Scalar.addi v394 v395
  v396.toNat
def k0_dev17 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_322 : BitVec 32 := 4#32
  let v405 : BitVec 32 := Scalar.muli v2 c4_i32_322
  let v406 : BitVec 32 := Scalar.addi c0_i32_323 v405
  let c1_i32_309 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v388 : BitVec 32 := Scalar.subi c1_i32_309 v5
  let c2_i32_324 : BitVec 32 := 2#32
  let v407 : BitVec 32 := Scalar.muli v388 c2_i32_324
  let v408 : BitVec 32 := Scalar.addi v406 v407
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_325 : BitVec 32 := 1#32
  let v409 : BitVec 32 := Scalar.muli v8 c1_i32_325
  let v410 : BitVec 32 := Scalar.addi v408 v409
  v410.toNat
def k0_dev18 (d0 : Dev nD) : Nat :=
  let c0_i32_332 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_331 : BitVec 32 := 4#32
  let v419 : BitVec 32 := Scalar.muli v2 c4_i32_331
  let v420 : BitVec 32 := Scalar.addi c0_i32_332 v419
  let c1_i32_309 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v388 : BitVec 32 := Scalar.subi c1_i32_309 v5
  let c2_i32_333 : BitVec 32 := 2#32
  let v421 : BitVec 32 := Scalar.muli v388 c2_i32_333
  let v422 : BitVec 32 := Scalar.addi v420 v421
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_334 : BitVec 32 := 1#32
  let v423 : BitVec 32 := Scalar.muli v8 c1_i32_334
  let v424 : BitVec 32 := Scalar.addi v422 v423
  v424.toNat
def k0_off12 (d0 : Dev nD) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c1_i32_110 : BitVec 32 := 1#32
  let v148 : BitVec 32 := Scalar.xori v12 c1_i32_110
  let c2_i32_214 : BitVec 32 := 2#32
  let v269 : BitVec 32 := Scalar.xori v148 c2_i32_214
  let c256_i32_338 : BitVec 32 := 256#32
  let v432 : BitVec 32 := Scalar.muli v269 c256_i32_338
  let c0_i32_344 : BitVec 32 := 0#32
  ![v432.toNat, 0]
def k0_dev19 (d0 : Dev nD) : Nat :=
  let c0_i32_341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_340 : BitVec 32 := 4#32
  let v433 : BitVec 32 := Scalar.muli v2 c4_i32_340
  let v434 : BitVec 32 := Scalar.addi c0_i32_341 v433
  let c1_i32_309 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v388 : BitVec 32 := Scalar.subi c1_i32_309 v5
  let c2_i32_342 : BitVec 32 := 2#32
  let v435 : BitVec 32 := Scalar.muli v388 c2_i32_342
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_343 : BitVec 32 := 1#32
  let v437 : BitVec 32 := Scalar.muli v8 c1_i32_343
  let v438 : BitVec 32 := Scalar.addi v436 v437
  v438.toNat
def k0_dev20 (d0 : Dev nD) : Nat :=
  let c0_i32_377 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_376 : BitVec 32 := 4#32
  let v476 : BitVec 32 := Scalar.muli v2 c4_i32_376
  let v477 : BitVec 32 := Scalar.addi c0_i32_377 v476
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_378 : BitVec 32 := 2#32
  let v478 : BitVec 32 := Scalar.muli v5 c2_i32_378
  let v479 : BitVec 32 := Scalar.addi v477 v478
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v473 : BitVec 32 := Scalar.subi c1_i32_372 v8
  let c1_i32_379 : BitVec 32 := 1#32
  let v480 : BitVec 32 := Scalar.muli v473 c1_i32_379
  let v481 : BitVec 32 := Scalar.addi v479 v480
  v481.toNat
def k0_dev21 (d0 : Dev nD) : Nat :=
  let c0_i32_386 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_385 : BitVec 32 := 4#32
  let v490 : BitVec 32 := Scalar.muli v2 c4_i32_385
  let v491 : BitVec 32 := Scalar.addi c0_i32_386 v490
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_387 : BitVec 32 := 2#32
  let v492 : BitVec 32 := Scalar.muli v5 c2_i32_387
  let v493 : BitVec 32 := Scalar.addi v491 v492
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v473 : BitVec 32 := Scalar.subi c1_i32_372 v8
  let c1_i32_388 : BitVec 32 := 1#32
  let v494 : BitVec 32 := Scalar.muli v473 c1_i32_388
  let v495 : BitVec 32 := Scalar.addi v493 v494
  v495.toNat
def k0_dev22 (d0 : Dev nD) : Nat :=
  let c0_i32_395 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_394 : BitVec 32 := 4#32
  let v504 : BitVec 32 := Scalar.muli v2 c4_i32_394
  let v505 : BitVec 32 := Scalar.addi c0_i32_395 v504
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_396 : BitVec 32 := 2#32
  let v506 : BitVec 32 := Scalar.muli v5 c2_i32_396
  let v507 : BitVec 32 := Scalar.addi v505 v506
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v473 : BitVec 32 := Scalar.subi c1_i32_372 v8
  let c1_i32_397 : BitVec 32 := 1#32
  let v508 : BitVec 32 := Scalar.muli v473 c1_i32_397
  let v509 : BitVec 32 := Scalar.addi v507 v508
  v509.toNat
def k0_off13 (d0 : Dev nD) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c2_i32_144 : BitVec 32 := 2#32
  let v186 : BitVec 32 := Scalar.xori v12 c2_i32_144
  let c4_i32_248 : BitVec 32 := 4#32
  let v314 : BitVec 32 := Scalar.xori v186 c4_i32_248
  let c256_i32_401 : BitVec 32 := 256#32
  let v517 : BitVec 32 := Scalar.muli v314 c256_i32_401
  let c768_i32_407 : BitVec 32 := 768#32
  ![v517.toNat, 768]
def k0_dev23 (d0 : Dev nD) : Nat :=
  let c0_i32_404 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_403 : BitVec 32 := 4#32
  let v518 : BitVec 32 := Scalar.muli v2 c4_i32_403
  let v519 : BitVec 32 := Scalar.addi c0_i32_404 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_405 : BitVec 32 := 2#32
  let v520 : BitVec 32 := Scalar.muli v5 c2_i32_405
  let v521 : BitVec 32 := Scalar.addi v519 v520
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v473 : BitVec 32 := Scalar.subi c1_i32_372 v8
  let c1_i32_406 : BitVec 32 := 1#32
  let v522 : BitVec 32 := Scalar.muli v473 c1_i32_406
  let v523 : BitVec 32 := Scalar.addi v521 v522
  v523.toNat
def k0_dev24 (d0 : Dev nD) : Nat :=
  let c0_i32_440 : BitVec 32 := 0#32
  let c1_i32_435 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v558 : BitVec 32 := Scalar.subi c1_i32_435 v2
  let c4_i32_439 : BitVec 32 := 4#32
  let v561 : BitVec 32 := Scalar.muli v558 c4_i32_439
  let v562 : BitVec 32 := Scalar.addi c0_i32_440 v561
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_441 : BitVec 32 := 2#32
  let v563 : BitVec 32 := Scalar.muli v5 c2_i32_441
  let v564 : BitVec 32 := Scalar.addi v562 v563
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_442 : BitVec 32 := 1#32
  let v565 : BitVec 32 := Scalar.muli v8 c1_i32_442
  let v566 : BitVec 32 := Scalar.addi v564 v565
  v566.toNat
def k0_dev25 (d0 : Dev nD) : Nat :=
  let c0_i32_449 : BitVec 32 := 0#32
  let c1_i32_435 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v558 : BitVec 32 := Scalar.subi c1_i32_435 v2
  let c4_i32_448 : BitVec 32 := 4#32
  let v575 : BitVec 32 := Scalar.muli v558 c4_i32_448
  let v576 : BitVec 32 := Scalar.addi c0_i32_449 v575
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_450 : BitVec 32 := 2#32
  let v577 : BitVec 32 := Scalar.muli v5 c2_i32_450
  let v578 : BitVec 32 := Scalar.addi v576 v577
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_451 : BitVec 32 := 1#32
  let v579 : BitVec 32 := Scalar.muli v8 c1_i32_451
  let v580 : BitVec 32 := Scalar.addi v578 v579
  v580.toNat
def k0_dev26 (d0 : Dev nD) : Nat :=
  let c0_i32_458 : BitVec 32 := 0#32
  let c1_i32_435 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v558 : BitVec 32 := Scalar.subi c1_i32_435 v2
  let c4_i32_457 : BitVec 32 := 4#32
  let v589 : BitVec 32 := Scalar.muli v558 c4_i32_457
  let v590 : BitVec 32 := Scalar.addi c0_i32_458 v589
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_459 : BitVec 32 := 2#32
  let v591 : BitVec 32 := Scalar.muli v5 c2_i32_459
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_460 : BitVec 32 := 1#32
  let v593 : BitVec 32 := Scalar.muli v8 c1_i32_460
  let v594 : BitVec 32 := Scalar.addi v592 v593
  v594.toNat
def k0_off14 (d0 : Dev nD) : Fin 2 → Nat :=
  let c4_i32_3 : BitVec 32 := 4#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c4_i32_3 v5
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c4_i32_178 : BitVec 32 := 4#32
  let v224 : BitVec 32 := Scalar.xori v12 c4_i32_178
  let c1_i32_282 : BitVec 32 := 1#32
  let v359 : BitVec 32 := Scalar.xori v224 c1_i32_282
  let c256_i32_464 : BitVec 32 := 256#32
  let v602 : BitVec 32 := Scalar.muli v359 c256_i32_464
  let c1408_i32_470 : BitVec 32 := 1408#32
  ![v602.toNat, 1408]
def k0_dev27 (d0 : Dev nD) : Nat :=
  let c0_i32_467 : BitVec 32 := 0#32
  let c1_i32_435 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v558 : BitVec 32 := Scalar.subi c1_i32_435 v2
  let c4_i32_466 : BitVec 32 := 4#32
  let v603 : BitVec 32 := Scalar.muli v558 c4_i32_466
  let v604 : BitVec 32 := Scalar.addi c0_i32_467 v603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v605 : BitVec 32 := Scalar.muli v5 c2_i32_468
  let v606 : BitVec 32 := Scalar.addi v604 v605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_469 : BitVec 32 := 1#32
  let v607 : BitVec 32 := Scalar.muli v8 c1_i32_469
  let v608 : BitVec 32 := Scalar.addi v606 v607
  v608.toNat
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x2048 : Shape := ⟨3, ![2, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Mesh.lean ====
/-
The mesh, the transfers and the regions they move, as tables.

Eight devices stand on a 2 × 2 × 2 mesh; device `c` has coordinates `x = c / 4`, `y = c / 2 % 2`, `z = c % 2`, and owns
block `blk c = 4 y + 2 x + z` of 256 rows of the result. Each device takes part in 24 transfers, numbered here in the
order in which the kernel starts them (which is also the order in which it waits for them): transfers 0, 1, 2 exchange
the two partial sums of a block along `y`, one per column panel; the other 21 gather the result, one axis after
another. Every transfer goes to the partner along its axis, and from it the same numbered transfer comes back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.RegionTalk
public import Idealize.ShloMosaic.Lib.Rounds
public import Idealize.ShloMosaic.Lib.Ring
public import Idealize.ShloMosaic.Lib.StableHlo
public import Idealize.ShloMosaic.Lib.Tactic

@[expose] public section

noncomputable section

namespace Cert.AllReduce

open Cert.KernelIdeal Cert.KernelIdeal.Gen
open Idealize.ShloMosaic
open Idealize.ShloMosaic.TcCoe
open Idealize.SL.Sem

/-! ## Partners and blocks -/

set_option backward.proofsInPublic true in
/-- The partner of `c` along axis `a` (0, 1, 2 for `x`, `y`, `z`): the device that differs in that coordinate only. -/
def pr (a : Fin 3) (c : Dev nD) : Dev nD :=
  match a with
  | 0 => ⟨(c.val + 4) % 8, Nat.mod_lt _ (by decide)⟩
  | 1 => ⟨4 * (c.val / 4) + (c.val + 2) % 4, by have h : c.val < 8 := c.isLt; show _ < 8; omega⟩
  | 2 => ⟨2 * (c.val / 2) + (c.val + 1) % 2, by have h : c.val < 8 := c.isLt; show _ < 8; omega⟩

set_option backward.proofsInPublic true in
/-- The block of rows device `c` owns. -/
def blk (c : Dev nD) : Fin 8 :=
  ⟨4 * (c.val / 2 % 2) + 2 * (c.val / 4) + c.val % 2, by have h : c.val < 8 := c.isLt; omega⟩

set_option backward.proofsInPublic true in
/-- The device owning block `b`: the same permutation of the three binary digits, which is its own inverse. -/
def own (b : Fin 8) : Dev nD :=
  ⟨4 * (b.val / 2 % 2) + 2 * (b.val / 4) + b.val % 2, by have h : b.val < 8 := b.isLt; show _ < 8; omega⟩

/-- Partnership is mutual. -/
theorem pr_pr (a : Fin 3) (c : Dev nD) : pr a (pr a c) = c := by revert a c; decide
theorem own_blk (c : Dev nD) : own (blk c) = c := by revert c; decide
theorem blk_own (b : Fin 8) : blk (own b) = b := by revert b; decide

/-- Partnership along one axis, as a permutation of the devices. -/
def partner (a : Fin 3) : Dev nD ≃ Dev nD := ⟨pr a, pr a, pr_pr a, pr_pr a⟩

/-- The binary digit of a block number that axis `a` flips. -/
def bit (a : Fin 3) : Fin 8 := match a with | 0 => 2 | 1 => 4 | 2 => 1

/-- Block numbers relative to one another: digitwise exclusive or. -/
def bx (b k : Fin 8) : Fin 8 := ⟨(b.val ^^^ k.val) % 8, Nat.mod_lt _ (by decide)⟩

theorem bx_bx (b k : Fin 8) : bx b (bx b k) = k := by revert b k; decide
theorem bx_zero (b : Fin 8) : bx b 0 = b := by revert b; decide
/-- Seen from the partner, a block's relative number changes in the axis' digit. -/
theorem blk_pr (a : Fin 3) (c : Dev nD) (k : Fin 8) : bx (blk (pr a c)) (bx k (bit a)) = bx (blk c) k := by
  revert a c k; decide
theorem blk_pr_one (c : Dev nD) : pr 1 (pr 1 c) = c := pr_pr 1 c

/-! ## The 24 transfers -/

set_option backward.proofsInPublic true in
/-- The index of transfer `t`'s semaphore in the kernel's two arrays of 24. -/
def semIx (t : Fin 24) : Fin 24 := if h : t.val < 3 then ⟨t.val + 21, by omega⟩ else ⟨t.val - 3, by omega⟩
theorem semIx_inj : Function.Injective semIx := by decide

/-- The axis transfer `t` goes along. -/
def ax : Fin 24 → Fin 3 := ![1, 1, 1, 2, 0, 1, 0, 0, 1, 1, 2, 2, 1, 1, 1, 1, 2, 2, 2, 2, 0, 0, 0, 0]

/-- The column panel transfer `t` moves. -/
def pn : Fin 24 → Fin 3 := ![0, 1, 2, 0, 1, 2, 0, 0, 1, 1, 2, 2, 0, 0, 0, 0, 1, 1, 1, 1, 2, 2, 2, 2]

/-- What transfer `t` reads: below 8, the block of that relative number of the sender's result buffer; 8, the buffer of
    partial sums to send; -/
def sk : Fin 24 → Fin 10 := ![8, 8, 8, 0, 0, 0, 0, 1, 0, 2, 0, 4, 0, 1, 2, 3, 0, 2, 4, 6, 0, 4, 1, 5]
/-- and what it fills: the block of that number relative to the RECEIVER, or (9) the buffer of partial sums received. -/
def rk : Fin 24 → Fin 10 := ![9, 9, 9, 1, 2, 4, 2, 3, 4, 6, 1, 5, 4, 5, 6, 7, 1, 3, 5, 7, 2, 6, 3, 7]

/-- A piece of a device's buffers: which block (or partial-sum buffer), and which column panel. -/
abbrev Key : Type := Fin 10 × Fin 3
def skey (t : Fin 24) : Key := (sk t, pn t)
def rkey (t : Fin 24) : Key := (rk t, pn t)

/-- The device transfer `t` of device `c` goes to (and the device its transfer `t` comes from). -/
abbrev peer (t : Fin 24) (c : Dev nD) : Dev nD := pr (ax t) c

theorem peer_peer (t : Fin 24) (c : Dev nD) : peer t (peer t c) = c := pr_pr _ c

/-! ## Rows and columns -/

/-- The first column of a panel, and its width. -/
def col : Fin 3 → ℕ := ![0, 768, 1408]
def wid : Fin 3 → ℕ := ![768, 640, 640]

/-- The elements of the result in block `b` of 256 rows, panel `p`. -/
def region (b : Fin 8) (p : Fin 3) : Finset S2048x2048.Idx :=
  Finset.univ.filter fun i => (256 * b.val ≤ (i 0).val ∧ (i 0).val < 256 * b.val + 256) ∧ (col p ≤ (i 1).val ∧ (i 1).val < col p + wid p)

/-- The elements of a 256-row buffer in panel `p`. -/
def panel (p : Fin 3) : Finset S256x2048.Idx :=
  Finset.univ.filter fun i => col p ≤ (i 1).val ∧ (i 1).val < col p + wid p

theorem mem_region {b : Fin 8} {p : Fin 3} {i : S2048x2048.Idx} :
    i ∈ region b p ↔ (256 * b.val ≤ (i 0).val ∧ (i 0).val < 256 * b.val + 256) ∧ (col p ≤ (i 1).val ∧ (i 1).val < col p + wid p) := by
  unfold region; rw [Finset.mem_filter]; exact and_iff_right (Finset.mem_univ _)
theorem mem_panel {p : Fin 3} {i : S256x2048.Idx} : i ∈ panel p ↔ col p ≤ (i 1).val ∧ (i 1).val < col p + wid p := by
  unfold panel; rw [Finset.mem_filter]; exact and_iff_right (Finset.mem_univ _)

/-- Every column is in a panel, -/
theorem panel_of (q : ℕ) (hq : q < 2048) : ∃ p : Fin 3, col p ≤ q ∧ q < col p + wid p := by
  by_cases h0 : q < 768
  · exact ⟨0, Nat.zero_le _, h0⟩
  · by_cases h1 : q < 1408
    · exact ⟨1, by show 768 ≤ q; omega, by show q < 768 + 640; omega⟩
    · exact ⟨2, by show 1408 ≤ q; omega, by show q < 1408 + 640; omega⟩
/-- and in one only. -/
theorem panel_unique (q : ℕ) (p p' : Fin 3) (h : col p ≤ q ∧ q < col p + wid p) (h' : col p' ≤ q ∧ q < col p' + wid p') : p = p' := by
  have e0 : col 0 = 0 := rfl
  have e1 : col 1 = 768 := rfl
  have e2 : col 2 = 1408 := rfl
  have w0 : wid 0 = 768 := rfl
  have w1 : wid 1 = 640 := rfl
  have w2 : wid 2 = 640 := rfl
  fin_cases p <;> fin_cases p' <;> first | rfl | (exfalso; simp only [Fin.zero_eta, Fin.mk_one, Fin.reduceFinMk, e0, e1, e2, w0, w1, w2] at h h'; omega)

/-- Distinct pieces of the result share no element. -/
theorem region_disjoint (u u' : Fin 8 × Fin 3) (h : u ≠ u') : Disjoint (region u.1 u.2) (region u'.1 u'.2) := by
  rw [Finset.disjoint_left]
  intro i hi hi'
  rw [mem_region] at hi hi'
  refine h (Prod.ext (Fin.ext ?_) (panel_unique _ _ _ hi.2 hi'.2))
  omega
/-- Together they are the whole result. -/
theorem region_cover : (Finset.univ : Finset (Fin 8 × Fin 3)).biUnion (fun u => region u.1 u.2) = Finset.univ := by
  ext i
  simp only [Finset.mem_biUnion, Finset.mem_univ, true_and, iff_true]
  have hr : (i 0).val < 2048 := (i 0).isLt
  have hq : (i 1).val < 2048 := (i 1).isLt
  obtain ⟨p, hp⟩ := panel_of _ hq
  exact ⟨(⟨(i 0).val / 256, by omega⟩, p), mem_region.mpr ⟨⟨by dsimp only; omega, by dsimp only; omega⟩, hp⟩⟩
theorem panel_disjoint (p p' : Fin 3) (h : p ≠ p') : Disjoint (panel p) (panel p') := by
  rw [Finset.disjoint_left]
  intro i hi hi'
  rw [mem_panel] at hi hi'
  exact h (panel_unique _ _ _ hi hi')
theorem panel_cover : (Finset.univ : Finset (Fin 3)).biUnion panel = Finset.univ := by
  ext i
  simp only [Finset.mem_biUnion, Finset.mem_univ, true_and, iff_true]
  obtain ⟨p, hp⟩ := panel_of _ (i 1).isLt
  exact ⟨p, mem_panel.mpr hp⟩

/-- The rectangle of block `b`, panel `p`, at whatever offsets and sizes it is written. -/
theorem rect_region (b : Fin 8) (p : Fin 3) {off size : Fin 2 → ℕ} (inb : ∀ a, off a + size a ≤ S2048x2048.size a)
    (ho : off = ![256 * b.val, col p]) (hs : size = ![256, wid p]) : (Rect.unit (s := S2048x2048) off size inb).set = region b p := by
  subst ho hs
  ext i
  rw [Rect.mem_set_unit, mem_region, Fin.forall_fin_two]
  exact Iff.rfl
theorem rect_panel (p : Fin 3) {off size : Fin 2 → ℕ} (inb : ∀ a, off a + size a ≤ S256x2048.size a)
    (ho : off = ![0, col p]) (hs : size = ![256, wid p]) : (Rect.unit (s := S256x2048) off size inb).set = panel p := by
  subst ho hs
  ext i
  rw [Rect.mem_set_unit, mem_panel, Fin.forall_fin_two]
  refine ⟨fun h => h.2, fun h => ⟨⟨Nat.zero_le _, ?_⟩, h⟩⟩
  have hr : (i 0).val < 256 := (i 0).isLt
  show (i 0).val < 0 + 256
  omega

/-! ## The kernel's own words: devices and offsets -/

/-- The device the kernel's 27 computed ids name: the three signals and the 24 transfers. -/
theorem dev_signal (c : Dev nD) : (⟨k0_dev1 c, k0_dev1_lt c⟩ : Dev nD) = pr 0 c ∧ (⟨k0_dev2 c, k0_dev2_lt c⟩ : Dev nD) = pr 1 c
    ∧ (⟨k0_dev3 c, k0_dev3_lt c⟩ : Dev nD) = pr 2 c := by
  revert c; decide +kernel

/-- The 24 transfers' targets in order. -/
def devOf (c : Dev nD) : Fin 24 → Dev nD := ![⟨k0_dev4 c, k0_dev4_lt c⟩, ⟨k0_dev5 c, k0_dev5_lt c⟩, ⟨k0_dev6 c, k0_dev6_lt c⟩,
  ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩,
  ⟨k0_dev12 c, k0_dev12_lt c⟩, ⟨k0_dev13 c, k0_dev13_lt c⟩, ⟨k0_dev14 c, k0_dev14_lt c⟩, ⟨k0_dev15 c, k0_dev15_lt c⟩,
  ⟨k0_dev16 c, k0_dev16_lt c⟩, ⟨k0_dev17 c, k0_dev17_lt c⟩, ⟨k0_dev18 c, k0_dev18_lt c⟩, ⟨k0_dev19 c, k0_dev19_lt c⟩,
  ⟨k0_dev20 c, k0_dev20_lt c⟩, ⟨k0_dev21 c, k0_dev21_lt c⟩, ⟨k0_dev22 c, k0_dev22_lt c⟩, ⟨k0_dev23 c, k0_dev23_lt c⟩,
  ⟨k0_dev24 c, k0_dev24_lt c⟩, ⟨k0_dev25 c, k0_dev25_lt c⟩, ⟨k0_dev26 c, k0_dev26_lt c⟩, ⟨k0_dev27 c, k0_dev27_lt c⟩]
/-- Each is the partner along the transfer's axis. -/
theorem devOf_eq (c : Dev nD) (t : Fin 24) : devOf c t = peer t c := by revert c t; decide +kernel

/-- The offsets the 21 gathering transfers are written at, in order (the first three entries are not read). -/
def offOf (c : Dev nD) : Fin 24 → Fin 2 → ℕ := ![k0_off4 c, k0_off6 c, k0_off8 c,
  k0_off4 c, k0_off6 c, k0_off8 c, k0_off4 c, k0_off9 c 1#32, k0_off6 c, k0_off10 c 2#32, k0_off8 c, k0_off11 c 4#32,
  k0_off4 c, k0_off9 c 1#32, k0_off9 c 2#32, k0_off12 c, k0_off6 c, k0_off10 c 2#32, k0_off10 c 4#32, k0_off13 c,
  k0_off8 c, k0_off11 c 4#32, k0_off11 c 1#32, k0_off14 c]
/-- The relative block number transfer `t` reads, when it is one of the gathering ones. -/
def bk (t : Fin 24) : Fin 8 := ⟨(sk t).val % 8, Nat.mod_lt _ (by decide)⟩
/-- Each is the corner of the piece the tables say. -/
theorem offOf_eq (c : Dev nD) (t : Fin 24) : offOf c t = ![256 * (bx (blk c) (bk t)).val, col (pn t)] := by
  revert c t; decide +kernel
/-- The offsets of the three stores of a device's own block, -/
theorem off_store (c : Dev nD) : k0_off3 c = ![256 * (blk c).val, col 0] ∧ k0_off5 c = ![256 * (blk c).val, col 1]
    ∧ k0_off7 c = ![256 * (blk c).val, col 2] := by
  revert c; decide +kernel
/-- and of the rows copied in: those the `y` partner owns and a device's own. -/
theorem off_copy (c : Dev nD) : k0_off1 c = ![256 * (blk (pr 1 c)).val, 0] ∧ k0_off2 c = ![256 * (blk c).val, 0] := by
  revert c; decide +kernel

end Cert.AllReduce

end
-- ==== Proof.Contents.lean ====
/-
What the buffers hold.

`Inp` names, per device, what the launch finds in the three arrays the kernel reads. From it: the partial sum a device
sends its `y` partner (`sent`), the sum it keeps (`kept`), the whole un-normalised result as every device comes to hold
it (`whole`), and the normalised rows (`norm`).
-/
module

public import proofs.«01_k».proof.Proof.Mesh

@[expose] public section

noncomputable section

namespace Cert.AllReduce

open Cert.KernelIdeal Cert.KernelIdeal.Gen
open Idealize.ShloMosaic
open Idealize.ShloMosaic.TcCoe
open Idealize.SL.Sem

variable {F : FTy → Type} [FloatOps F]

/-- What each device's partial sums, residual and scale hold when the kernel starts. -/
structure Inp (F : FTy → Type) where
  p : Dev nD → Vec F S2048x2048 .f32
  r : Dev nD → Vec F S2048x2048 .f32
  g : Dev nD → Vec F S1x2048 .f32

/-! ## Rows of a block -/

theorem block_inb (b : Fin 8) : ∀ a, (![256 * b.val, 0] : Fin 2 → ℕ) a + S256x2048.size a ≤ S2048x2048.size a := by
  revert b; decide

/-- Block `b`'s rows, all columns. -/
abbrev blockRect (b : Fin 8) : Rect S2048x2048 := Rect.unit (s := S2048x2048) ![256 * b.val, 0] S256x2048.size (block_inb b)

/-- The rows of block `b` of an array. -/
def rows {α : Type} (b : Fin 8) (f : S2048x2048.Idx → α) : S256x2048.Idx → α := fun j => f ((blockRect b).emb j)

/-- The element of block `b` at row `j 0`, column `j 1`. -/
def inBlock (b : Fin 8) (j : S256x2048.Idx) : S2048x2048.Idx := (blockRect b).emb j

theorem inBlock_row (b : Fin 8) (j : S256x2048.Idx) : (inBlock b j 0).val = 256 * b.val + (j 0).val := by
  show 256 * b.val + 1 * (j 0).val = _; omega
theorem inBlock_col (b : Fin 8) (j : S256x2048.Idx) : (inBlock b j 1).val = (j 1).val := by
  show 0 + 1 * (j 1).val = _; omega

/-- The block an element is in, -/
def blockOf (i : S2048x2048.Idx) : Fin 8 := ⟨(i 0).val / 256, by have h : (i 0).val < 2048 := (i 0).isLt; omega⟩
/-- and where in it: its row, -/
def rowIn (i : S2048x2048.Idx) : Fin 256 := ⟨(i 0).val % 256, Nat.mod_lt _ (by decide)⟩
/-- as an element of the block. -/
def local' (i : S2048x2048.Idx) : S256x2048.Idx := fun a => match a with
  | ⟨0, _⟩ => rowIn i
  | ⟨1, _⟩ => i 1

theorem inBlock_local (i : S2048x2048.Idx) : inBlock (blockOf i) (local' i) = i := by
  funext a
  refine Fin.ext ?_
  fin_cases a
  · show (inBlock (blockOf i) (local' i) 0).val = (i 0).val
    rw [inBlock_row]; show 256 * ((i 0).val / 256) + (i 0).val % 256 = _; omega
  · exact inBlock_col _ _
theorem blockOf_inBlock (b : Fin 8) (j : S256x2048.Idx) : blockOf (inBlock b j) = b := by
  refine Fin.ext ?_
  have h : (j 0).val < 256 := (j 0).isLt
  show (inBlock b j 0).val / 256 = b.val
  rw [inBlock_row]; omega
theorem local_inBlock (b : Fin 8) (j : S256x2048.Idx) : local' (inBlock b j) = j := by
  have h : (j 0).val < 256 := (j 0).isLt
  funext a
  refine Fin.ext ?_
  fin_cases a
  · show (inBlock b j 0).val % 256 = (j 0).val
    rw [inBlock_row]; omega
  · exact inBlock_col _ _

/-! ## The values -/

/-- A kept sum and a received partial sum, added in f32 and rounded to bf16. -/
def yv (a : F .f32) (b : F .bf16) : F .bf16 :=
  FloatOps.truncf .bf16 bitsLt_bf16_f32 (FloatOps.addf a (FloatOps.extf .f32 bitsLt_bf16_f32 b))

variable (I : Inp F)

/-- The partial sum device `c` sends: its partner's rows, rounded to bf16; -/
def sent (c : Dev nD) : Vec F S256x2048 .bf16 := k0_pay2 (rows (blk (pr 1 c)) (I.p c))
/-- the sum it keeps: its own rows, the residual added; -/
def kept (c : Dev nD) : Vec F S256x2048 .f32 := k0_pay3 (rows (blk c) (I.p c)) (rows (blk c) (I.r c))
/-- its block of the un-normalised result. -/
def block (c : Dev nD) : Vec F S256x2048 .bf16 := fun j => yv (kept I c j) (sent I (pr 1 c) j)
/-- The un-normalised result, gathered: each block as its owner computed it. -/
def whole : Vec F S2048x2048 .bf16 := fun i => block I (own (blockOf i)) (local' i)
/-- The result on device `c`: each block of rows normalised and scaled. -/
def norm (c : Dev nD) : Vec F S2048x2048 .bf16 := fun i => k0_pay7 (rows (blockOf i) (whole I)) (I.g c) (local' i)
/-- The result while it is being normalised: the first `n` blocks done. -/
def upTo (c : Dev nD) (n : ℕ) : Vec F S2048x2048 .bf16 := fun i => if (i 0).val < 256 * n then norm I c i else whole I i

theorem whole_inBlock (c : Dev nD) (j : S256x2048.Idx) : whole I (inBlock (blk c) j) = block I c j := by
  unfold whole; rw [blockOf_inBlock, local_inBlock, own_blk]
theorem upTo_zero (c : Dev nD) : upTo I c 0 = whole I := funext fun i => if_neg (by omega)
theorem upTo_eight (c : Dev nD) : upTo I c 8 = norm I c :=
  funext fun i => if_pos (by have h : (i 0).val < 2048 := (i 0).isLt; omega)
/-- A block not yet normalised still holds the gathered rows. -/
theorem rows_upTo (c : Dev nD) (b : Fin 8) : rows b (upTo I c b.val) = rows b (whole I) := by
  funext j
  show (if (inBlock b j 0).val < 256 * b.val then _ else _) = _
  rw [if_neg (by rw [inBlock_row]; omega)]; rfl

/-- The three pieces of a block are the elementwise sums of the kept and received pieces. -/
theorem pay4_apply (a : Vec F S256x768 .f32) (b : Vec F S256x768 .bf16) (j) : k0_pay4 a b j = yv (a j) (b j) := rfl
theorem pay5_apply (a : Vec F S256x640 .f32) (b : Vec F S256x640 .bf16) (j) : k0_pay5 a b j = yv (a j) (b j) := rfl
theorem pay6_apply (a : Vec F S256x640 .f32) (b : Vec F S256x640 .bf16) (j) : k0_pay6 a b j = yv (a j) (b j) := rfl

/-- The eight normalisations are one function of the rows and the scale. -/
theorem pay8_eq : k0_pay8 (F := F) = k0_pay7 := rfl
theorem pay9_eq : k0_pay9 (F := F) = k0_pay7 := rfl
theorem pay10_eq : k0_pay10 (F := F) = k0_pay7 := rfl
theorem pay11_eq : k0_pay11 (F := F) = k0_pay7 := rfl
theorem pay14_eq : k0_pay14 (F := F) = k0_pay7 := rfl
theorem pay13_eq (v : Vec F S256x2048 .bf16) (g : Vec F S1x2048 .f32) : k0_pay13 (k0_pay12 v) g = k0_pay7 v g := rfl
theorem pay1_eq (v : Vec F S256x2048 .bf16) (g : Vec F S1x2048 .f32) : k0_pay1 (k0_pay15 v) (k0_pay16 v) g = k0_pay7 v g := rfl

end Cert.AllReduce

end
-- ==== Proof.Protocol.lean ====
/-
The protocol: the semaphores' cells, the one round each runs, what each duty hands over, and the levels.

A device has 52 cells besides its two staging ones: the barrier's, three for its local copies, and one send and one
receive cell per transfer. The barrier cell collects one unit from each of the three partners, and with it the pieces of
that partner's buffers the transfers along that axis fill; a copy's or a send's cell gives back what was lent; a receive
cell gives the piece that arrived, holding what `Contents` says.
-/
module

public import proofs.«01_k».proof.Proof.Contents
public import Idealize.ShloMosaic.Lib.SparseCore.ProtocolKit

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's half: rounds whose duties are named by the axis of the device that pays. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

abbrev pM : Memref sig .tc .hbm S2048x2048 .f32 := Memref.whole main_v1
abbrev rM : Memref sig .tc .hbm S2048x2048 .f32 := Memref.whole main_arg1
abbrev gM : Memref sig .tc .vmem S1x2048 .f32 := Memref.whole cc0_stg0_0
abbrev oM : Memref sig .tc .vmem S2048x2048 .bf16 := Memref.whole cc0_stg1_0
abbrev keptM : Memref sig .tc .vmem S256x2048 .f32 := Memref.whole cc0_scratch0
abbrev givenM : Memref sig .tc .vmem S256x2048 .f32 := Memref.whole cc0_scratch1
abbrev resM : Memref sig .tc .vmem S256x2048 .f32 := Memref.whole cc0_scratch2
abbrev sendM : Memref sig .tc .vmem S256x2048 .bf16 := Memref.whole cc0_scratch3
abbrev recvM : Memref sig .tc .vmem S256x2048 .bf16 := Memref.whole cc0_scratch4

/-! ## Semaphores and cells -/

/-- The runtime's barrier semaphore. -/
abbrev barS : Sem sig := (SemArray.scalar (sig.barrier 0 rfl) : Sems sig S_).sem
/-- The semaphores of the three local copies, -/
def copySem (i : Fin 3) : DmaSem sig := ⟨2 + i.val, by have h := i.isLt; show _ < 53; omega⟩
/-- of transfer `t`'s sending, -/
def sendSem (t : Fin 24) : DmaSem sig := ⟨5 + (semIx t).val, by have h := (semIx t).isLt; show _ < 53; omega⟩
/-- and of its arrival. -/
def recvSem (t : Fin 24) : DmaSem sig := ⟨29 + (semIx t).val, by have h := (semIx t).isLt; show _ < 53; omega⟩

abbrev barCell (c : Dev nD) : GSem nD τ sig := ((c : Thread nD τ), .reg barS)
abbrev copyCell (c : Dev nD) (i : Fin 3) : GSem nD τ sig := ((c : Thread nD τ), .dma (copySem i))
abbrev sendCell (c : Dev nD) (t : Fin 24) : GSem nD τ sig := ((c : Thread nD τ), .dma (sendSem t))
abbrev recvCell (c : Dev nD) (t : Fin 24) : GSem nD τ sig := ((c : Thread nD τ), .dma (recvSem t))

/-- What a semaphore is for. -/
inductive Use
  | other
  | bar
  | copy (i : Fin 3)
  | send (t : Fin 24)
  | recv (t : Fin 24)
  deriving DecidableEq

/-- The transfer an index of the kernel's arrays is for: `semIx`'s inverse. -/
def xferOf (j : Fin 24) : Fin 24 := if h : 21 ≤ j.val then ⟨j.val - 21, by omega⟩ else ⟨j.val + 3, by omega⟩

def use : SemLoc sig → Use
  | .reg s => if s = barS then .bar else .other
  | .dma q =>
    if h₀ : q.val < 2 then .other
    else if h₁ : q.val < 5 then .copy ⟨q.val - 2, by omega⟩
    else if h₂ : q.val < 29 then .send (xferOf ⟨q.val - 5, by omega⟩)
    else .recv (xferOf ⟨q.val - 29, by have h : q.val < 53 := q.isLt; omega⟩)

theorem xferOf_semIx (t : Fin 24) : xferOf (semIx t) = t := by revert t; decide

theorem use_bar : use (.reg barS) = .bar := by
  show (if barS = barS then Use.bar else Use.other) = _; exact if_pos rfl
theorem use_copy (i : Fin 3) : use (.dma (copySem i)) = .copy i := by
  have e : (copySem i).val = 2 + i.val := rfl
  have h := i.isLt
  unfold use
  dsimp only
  rw [dif_neg (by rw [e]; omega), dif_pos (by rw [e]; omega)]
  exact congrArg Use.copy (Fin.ext (by show (copySem i).val - 2 = i.val; rw [e]; omega))
theorem use_send (t : Fin 24) : use (.dma (sendSem t)) = .send t := by
  have e : (sendSem t).val = 5 + (semIx t).val := rfl
  have h := (semIx t).isLt
  unfold use
  dsimp only
  rw [dif_neg (by rw [e]; omega), dif_neg (by rw [e]; omega), dif_pos (by rw [e]; omega)]
  refine congrArg Use.send (Eq.trans (congrArg xferOf (Fin.ext ?_)) (xferOf_semIx t))
  show (sendSem t).val - 5 = (semIx t).val; rw [e]; omega
theorem use_recv (t : Fin 24) : use (.dma (recvSem t)) = .recv t := by
  have e : (recvSem t).val = 29 + (semIx t).val := rfl
  have h := (semIx t).isLt
  unfold use
  dsimp only
  rw [dif_neg (by rw [e]; omega), dif_neg (by rw [e]; omega), dif_neg (by rw [e]; omega)]
  refine congrArg Use.recv (Eq.trans (congrArg xferOf (Fin.ext ?_)) (xferOf_semIx t))
  show (recvSem t).val - 29 = (semIx t).val; rw [e]; omega

/-! ## Amounts -/

/-- The credit of a local copy (256 rows of f32), -/
def copyAmt : ℕ := RefSig.tileCredit S256x2048 .f32
/-- and of a transfer: a panel of 256 rows of bf16. -/
def panelAmt (p : Fin 3) : ℕ := RefSig.tileCredit ⟨2, ![256, wid p]⟩ .bf16
abbrev amt (t : Fin 24) : ℕ := panelAmt (pn t)

theorem copyAmt_pos : 0 < copyAmt := RefSig.tileCredit_pos _ _ (by decide)
theorem panelAmt_pos (p : Fin 3) : 0 < panelAmt p := RefSig.tileCredit_pos _ _ (by revert p; decide)

/-! ## Pieces of buffers -/

/-- A piece of device `c`'s buffers at contents `o`, `s`, `r` of its result buffer and of its buffers of partial sums
    to send and received. -/
def piece (c : Dev nD) (k : Key) (o : Vec F S2048x2048 .bf16) (s r : Vec F S256x2048 .bf16) : sProp 𝕄 :=
  if h : k.1.val < 8 then ((c : Thread nD τ).loc cc0_stg1_0) ↦[region (bx (blk c) ⟨k.1.val, h⟩) k.2]{fullShare} o
  else if k.1.val = 8 then ((c : Thread nD τ).loc cc0_scratch3) ↦[panel k.2]{fullShare} s
  else ((c : Thread nD τ).loc cc0_scratch4) ↦[panel k.2]{fullShare} r

variable (I : Inp F)

/-- The piece, holding what it is to hold; -/
def pts (c : Dev nD) (k : Key) : sProp 𝕄 := piece c k (whole I) (sent I c) (sent I (pr 1 c))
/-- and holding whatever it does. -/
def land (c : Dev nD) (k : Key) : sProp 𝕄 := iprop(∃ o s r, piece (F := F) c k o s r)

instance piece_storable (c : Dev nD) (k : Key) (o s r) : BI.Storable (upEmb : UEmb _ 𝕄) (piece (F := F) c k o s r) := by
  unfold piece; (repeat' split) <;> infer_instance
instance pts_storable (c : Dev nD) (k : Key) : BI.Storable (upEmb : UEmb _ 𝕄) (pts I c k) := by unfold pts; infer_instance
instance land_storable (c : Dev nD) (k : Key) : BI.Storable (upEmb : UEmb _ 𝕄) (land (F := F) c k) := by unfold land; infer_instance

theorem pts_land (c : Dev nD) (k : Key) : pts I c k ⊢ land (F := F) c k := by
  unfold pts land
  iintro H; iexists (whole I), (sent I c), (sent I (pr 1 c)); iexact H

/-- The rows of an array copied in. -/
def rowSet (b : Fin 8) : Finset S2048x2048.Idx := (blockRect b).set

/-- What a local copy delivers: its destination holding the rows, and the rows it read back. -/
def copyPay (c : Dev nD) : Fin 3 → sProp 𝕄
  | 0 => iprop((((c : Thread nD τ).loc cc0_scratch1) ↦{fullShare} rows (blk (pr 1 c)) (I.p c))
    ∗ (((c : Thread nD τ).loc main_v1) ↦[rowSet (blk (pr 1 c))]{fullShare} I.p c))
  | 1 => iprop((((c : Thread nD τ).loc cc0_scratch0) ↦{fullShare} rows (blk c) (I.p c))
    ∗ (((c : Thread nD τ).loc main_v1) ↦[rowSet (blk c)]{fullShare} I.p c))
  | 2 => iprop((((c : Thread nD τ).loc cc0_scratch2) ↦{fullShare} rows (blk c) (I.r c))
    ∗ (((c : Thread nD τ).loc main_arg1) ↦[rowSet (blk c)]{fullShare} I.r c))

instance copyPay_storable (c : Dev nD) (i : Fin 3) : BI.Storable (upEmb : UEmb _ 𝕄) (copyPay I c i) := by
  unfold copyPay; split <;> infer_instance

/-- The transfers along axis `a`. -/
def along (a : Fin 3) : Finset (Fin 24) := Finset.univ.filter fun t => ax t = a

/-- What the partner along `a` hands over with its barrier signal: the pieces of ITS buffers that device `c`'s transfers
    along that axis fill, and that its receive cells are open. -/
def barPay (a : Fin 3) (c : Dev nD) : sProp 𝕄 :=
  bigSep (along a) fun t => iprop(land (F := F) (pr a c) (rkey t) ∗ reached ER (recvCell (pr a c) t) 0)

instance barPay_storable (a : Fin 3) (c : Dev nD) : BI.Storable (upEmb : UEmb _ 𝕄) (barPay (F := F) a c) := by
  unfold barPay; infer_instance

/-! ## The schedule -/

def dutiesOf : Use → Finset (Fin 3)
  | .other => ∅
  | .bar => Finset.univ
  | _ => {0}
/-- The amount of a use, a copy's being `k` and panel `p`'s `a p`. -/
def amountBy (k : ℕ) (a : Fin 3 → ℕ) : Use → ℕ
  | .copy _ => k
  | .send t => a (pn t)
  | .recv t => a (pn t)
  | _ => 1
theorem amountBy_pos (k : ℕ) (a : Fin 3 → ℕ) (hk : 0 < k) (ha : ∀ p, 0 < a p) (u : Use) : 0 < amountBy k a u := by
  cases u with
  | other => exact Nat.one_pos
  | bar => exact Nat.one_pos
  | copy i => exact hk
  | send t => exact ha _
  | recv t => exact ha _
theorem amountBy_copy (k : ℕ) (a : Fin 3 → ℕ) (i : Fin 3) : amountBy k a (.copy i) = k := rfl
theorem amountBy_send (k : ℕ) (a : Fin 3 → ℕ) (t : Fin 24) : amountBy k a (.send t) = a (pn t) := rfl
theorem amountBy_recv (k : ℕ) (a : Fin 3 → ℕ) (t : Fin 24) : amountBy k a (.recv t) = a (pn t) := rfl
def amountOf (u : Use) : ℕ := amountBy copyAmt panelAmt u
def payOf (c : Dev nD) (d : Fin 3) : Use → sProp 𝕄
  | .other => iprop(emp)
  | .bar => barPay d c
  | .copy i => copyPay I c i
  | .send t => pts I c (skey t)
  | .recv t => pts I c (rkey t)

/-- One round per cell of a TensorCore. -/
def Rd : Rounds.Schedule (GSem nD τ sig) (Fin 3) 𝕄 where
  duties g r := if r = 0 ∧ g.1.2 = .tc then dutiesOf (use g.2) else ∅
  unitless _ := False
  amount g _ _ := amountOf (use g.2)
  payload g _ d := payOf I g.1.1 d (use g.2)
  amount_pos g _ _ _ := amountBy_pos _ _ copyAmt_pos panelAmt_pos (use g.2)

instance Rd_payload_storable (g : GSem nD τ sig) (r : ℕ) (d : Fin 3) : BI.Storable (upEmb : UEmb _ 𝕄) ((Rd I).payload g r d) := by
  show BI.Storable upEmb (payOf I g.1.1 d (use g.2))
  cases use g.2 <;> (unfold payOf; infer_instance)

section Sched
variable (c : Dev nD)

theorem duties_later (g : GSem nD τ sig) : ∀ r, 1 ≤ r → (Rd I).duties g r = ∅ := fun r hr => by
  show (if r = 0 ∧ _ then _ else _) = _; rw [if_neg fun h => by omega]
theorem duties_of {g : GSem nD τ sig} (hg : g.1.2 = .tc) {u : Use} (hu : use g.2 = u) : (Rd I).duties g 0 = dutiesOf u := by
  subst hu; show (if _ then _ else _) = _; rw [if_pos ⟨rfl, hg⟩]
theorem amount_of {g : GSem nD τ sig} {u : Use} (hu : use g.2 = u) (r : ℕ) (d : Fin 3) : (Rd I).amount g r d = amountOf u := by
  subst hu; rfl
theorem payload_of {g : GSem nD τ sig} {u : Use} (hu : use g.2 = u) (r : ℕ) (d : Fin 3) : (Rd I).payload g r d = payOf I g.1.1 d u := by
  subst hu; rfl

theorem duties_bar : (Rd I).duties (barCell c) 0 = Finset.univ := duties_of I (g := barCell c) rfl use_bar
theorem duties_copy (i : Fin 3) : (Rd I).duties (copyCell c i) 0 = {0} := duties_of I (g := copyCell c i) rfl (use_copy i)
theorem duties_send (t : Fin 24) : (Rd I).duties (sendCell c t) 0 = {0} := duties_of I (g := sendCell c t) rfl (use_send t)
theorem duties_recv (t : Fin 24) : (Rd I).duties (recvCell c t) 0 = {0} := duties_of I (g := recvCell c t) rfl (use_recv t)
theorem amount_bar (d : Fin 3) : (Rd I).amount (barCell c) 0 d = 1 := amount_of I (g := barCell c) use_bar 0 d
theorem amount_copy (i d : Fin 3) : (Rd I).amount (copyCell c i) 0 d = copyAmt := (amount_of I (g := copyCell c i) (use_copy i) 0 d).trans (amountBy_copy _ _ i)
theorem amount_send (t : Fin 24) (d : Fin 3) : (Rd I).amount (sendCell c t) 0 d = amt t := (amount_of I (g := sendCell c t) (use_send t) 0 d).trans (amountBy_send _ _ t)
theorem amount_recv (t : Fin 24) (d : Fin 3) : (Rd I).amount (recvCell c t) 0 d = amt t := (amount_of I (g := recvCell c t) (use_recv t) 0 d).trans (amountBy_recv _ _ t)
theorem payload_bar (d : Fin 3) : (Rd I).payload (barCell c) 0 d = barPay d c := payload_of I (g := barCell c) use_bar 0 d
theorem payload_copy (i d : Fin 3) : (Rd I).payload (copyCell c i) 0 d = copyPay I c i := payload_of I (g := copyCell c i) (use_copy i) 0 d
theorem payload_send (t : Fin 24) (d : Fin 3) : (Rd I).payload (sendCell c t) 0 d = pts I c (skey t) := payload_of I (g := sendCell c t) (use_send t) 0 d
theorem payload_recv (t : Fin 24) (d : Fin 3) : (Rd I).payload (recvCell c t) 0 d = pts I c (rkey t) := payload_of I (g := recvCell c t) (use_recv t) 0 d

theorem expect_bar : (Rd I).expect (barCell c) 0 = 3 := by
  unfold Schedule.expect Schedule.amountOf
  rw [duties_bar, Finset.sum_congr rfl fun d _ => amount_bar I c d]; rfl
theorem expect_copy (i : Fin 3) : (Rd I).expect (copyCell c i) 0 = copyAmt := by
  unfold Schedule.expect Schedule.amountOf; rw [duties_copy, Finset.sum_singleton, amount_copy]
theorem expect_send (t : Fin 24) : (Rd I).expect (sendCell c t) 0 = amt t := by
  unfold Schedule.expect Schedule.amountOf; rw [duties_send, Finset.sum_singleton, amount_send]
theorem expect_recv (t : Fin 24) : (Rd I).expect (recvCell c t) 0 = amt t := by
  unfold Schedule.expect Schedule.amountOf; rw [duties_recv, Finset.sum_singleton, amount_recv]

/-- What a wait for the whole round of a cell hands over. -/
theorem rest_bar : bigSep ((Rd I).duties (barCell c) 0 \ ∅) (fun d => (Rd I).payload (barCell c) 0 d)
    = bigSep Finset.univ fun a : Fin 3 => (barPay a c : sProp 𝕄) := by
  rw [Finset.sdiff_empty, duties_bar]; exact bigSep_congr fun d _ => payload_bar I c d
theorem rest_copy (i : Fin 3) : bigSep ((Rd I).duties (copyCell c i) 0 \ ∅) (fun d => (Rd I).payload (copyCell c i) 0 d) = copyPay I c i := by
  rw [Finset.sdiff_empty, duties_copy, bigSep_singleton, payload_copy]
theorem rest_send (t : Fin 24) : bigSep ((Rd I).duties (sendCell c t) 0 \ ∅) (fun d => (Rd I).payload (sendCell c t) 0 d) = pts I c (skey t) := by
  rw [Finset.sdiff_empty, duties_send, bigSep_singleton, payload_send]
theorem rest_recv (t : Fin 24) : bigSep ((Rd I).duties (recvCell c t) 0 \ ∅) (fun d => (Rd I).payload (recvCell c t) 0 d) = pts I c (rkey t) := by
  rw [Finset.sdiff_empty, duties_recv, bigSep_singleton, payload_recv]

end Sched

/-! ## What a device owes, and the levels -/

/-- The transfers from number `n` on. -/
def since (n : ℕ) : Finset (Fin 24) := Finset.univ.filter fun t => n ≤ t.val
theorem mem_since {n : ℕ} {t : Fin 24} : t ∈ since n ↔ n ≤ t.val := by
  unfold since; rw [Finset.mem_filter]; exact and_iff_right (Finset.mem_univ _)
theorem since_insert (t : Fin 24) : since t.val = insert t (since (t.val + 1)) := by
  ext u
  rw [Finset.mem_insert, mem_since, mem_since, Fin.ext_iff]
  omega
theorem notMem_since (t : Fin 24) : t ∉ since (t.val + 1) := fun h => by have := mem_since.mp h; omega

/-- The credit of the transfers from number `n` on, owed to the partners' receive cells; -/
def owed (c : Dev nD) (n : ℕ) : CellTallies nD τ sig Unit := ∑ t ∈ since n, tallyAt (recvCell (peer t c) t) () (amt t)
/-- and at launch also the three barrier signals, in the reverse of the order they are made. -/
def owedAll (c : Dev nD) : CellTallies nD τ sig Unit :=
  owed c 0 + tallyAt (barCell (pr 2 c)) () 1 + tallyAt (barCell (pr 1 c)) () 1 + tallyAt (barCell (pr 0 c)) () 1

theorem owed_step (c : Dev nD) (t : Fin 24) : owed c t.val = owed c (t.val + 1) + tallyAt (recvCell (peer t c) t) () (amt t) := by
  unfold owed; rw [since_insert, Finset.sum_insert (notMem_since t), add_comm]
theorem owed_end (c : Dev nD) : owed c 24 = 0 := by
  unfold owed
  rw [show since 24 = ∅ from Finset.eq_empty_of_forall_notMem fun t h => by have := mem_since.mp h; omega, Finset.sum_empty]

def L (g : GSem nD τ sig) : Finset Unit := if g.1.2 = .tc then {()} else ∅
/-- The barrier's cells are at level 1, transfer `t`'s receive cells at `2 + t`, all other cells at 0. -/
def levelOf : Use → ℕ
  | .bar => 1
  | .recv t => 2 + t.val
  | _ => 0
def lv (g : GSem nD τ sig) (_ : Unit) : ℕ := levelOf (use g.2)

theorem L_of_ne (g : GSem nD τ sig) (h : g.1.2 ≠ .tc) : L g = ∅ := if_neg h
theorem L_tc (c : Dev nD) (sm : SemLoc sig) : L ((c : Thread nD τ), sm) = {()} := if_pos rfl
theorem lv_of {g : GSem nD τ sig} {u : Use} (h : use g.2 = u) (i : Unit) : lv g i = levelOf u := by subst h; rfl

/-- What is owed is owed to receive cells of transfers not yet started. -/
theorem owed_pos {c : Dev nD} {n : ℕ} {g : GSem nD τ sig} {u : Unit} (h : 0 < owed c n g u) :
    ∃ t : Fin 24, n ≤ t.val ∧ g = recvCell (peer t c) t := by
  unfold owed at h
  obtain ⟨t, ht, h'⟩ := SparseCore.ProtocolKit.sum_tallyAt_apply_pos h
  exact ⟨t, mem_since.mp ht, h'.1⟩

theorem owedAll_pos {c : Dev nD} {g : GSem nD τ sig} {u : Unit} (h : 0 < owedAll c g u) :
    (∃ t : Fin 24, g = recvCell (peer t c) t) ∨ ∃ a : Fin 3, g = barCell (pr a c) := by
  by_contra hn
  rw [not_or] at hn
  unfold owedAll at h
  simp only [Pi.add_apply, Finsupp.add_apply, tallyAt_apply] at h
  rw [if_neg (fun h' => hn.2 ⟨2, h'.1⟩), if_neg (fun h' => hn.2 ⟨1, h'.1⟩), if_neg (fun h' => hn.2 ⟨0, h'.1⟩), add_zero, add_zero, add_zero] at h
  obtain ⟨t, -, e⟩ := owed_pos h
  exact hn.1 ⟨t, e⟩

/-- A wait on a cell at a level `b` is allowed while everything owed is to receive cells at a higher one. -/
theorem mayWait_owed (c : Dev nD) (sm : SemLoc sig) (n : ℕ) (h : levelOf (use sm) < 2 + n) :
    (levAts L lv : sProp 𝕄) ⊢ MayWait (c : Thread nD τ) sm () (owed c n) :=
  MayOwe.of_cut (L := L) (lev := lv) (levelOf (use sm))
    (fun p hp => by rw [Finset.mem_singleton.mp hp, L_tc]; exact Finset.mem_singleton_self _)
    (fun g u hg => by obtain ⟨t, -, rfl⟩ := owed_pos hg; exact Finset.mem_singleton_self _)
    (fun p hp => by rw [Finset.mem_singleton.mp hp]; exact le_rfl)
    (fun g u hg => by
      obtain ⟨t, ht, rfl⟩ := owed_pos hg
      rw [lv_of (use_recv t)]; show _ < 2 + t.val; omega)

end Cert.AllReduce

end
-- ==== Proof.Steps.lean ====
/-
One step of the exchange at a time.

`St I κ c s n a b` is what device `c` holds once it has stored `s` panels of its own block, started `n` transfers, and
waited for `a` of its sends and `b` arrivals. Each of the four kinds of step moves one of the four counters; the
contents of every piece are fixed from the start (`pts`), so a step is a statement about which pieces are held.
-/
module

public import proofs.«01_k».proof.Proof.Protocol

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The program `p` on device `c` runs, and ends in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that has returned ends in what it returns. -/
theorem wp_done (c : Dev nD) {α : Type} {Q : α → sProp 𝕄} {a : α} : Q a ⊢ WP c (.ret a) Q := by
  unfold WP
  rw [wp_ret]
  iintro H; imodintro; iexact H

/-- A part of the kernel's body, on the buffers and semaphores the kernel runs on. -/
abbrev onBufs {β : Sort*} (f : ∀ (a0 : Memref sig .tc .hbm S2048x2048 .f32), a0.IsWhole → ∀ (a1 : Memref sig .tc .hbm S2048x2048 .f32), a1.IsWhole →
    ∀ (a2 : Memref sig .tc .vmem S1x2048 .f32), a2.IsWhole → ∀ (a3 : Memref sig .tc .vmem S2048x2048 .bf16), a3.IsWhole →
    ∀ (a4 : Memref sig .tc .vmem S256x2048 .f32), a4.IsWhole → ∀ (a5 : Memref sig .tc .vmem S256x2048 .f32), a5.IsWhole →
    ∀ (a6 : Memref sig .tc .vmem S256x2048 .f32), a6.IsWhole → ∀ (a7 : Memref sig .tc .vmem S256x2048 .bf16), a7.IsWhole →
    ∀ (a8 : Memref sig .tc .vmem S256x2048 .bf16), a8.IsWhole → DmaSems sig S3 → DmaSems sig S24 → DmaSems sig S24 → β) : β :=
  f pM (Memref.isWhole_whole _) rM (Memref.isWhole_whole _) gM (Memref.isWhole_whole _) oM (Memref.isWhole_whole _) keptM (Memref.isWhole_whole _)
    givenM (Memref.isWhole_whole _) resM (Memref.isWhole_whole _) sendM (Memref.isWhole_whole _) recvM (Memref.isWhole_whole _)
    cc0_scratch5 cc0_scratch6 cc0_scratch7

/-! ## Index sets -/

/-- The transfers before number `n`. -/
def before (n : ℕ) : Finset (Fin 24) := Finset.univ.filter fun t => t.val < n
/-- Those started but not waited for. -/
def flying (n a : ℕ) : Finset (Fin 24) := Finset.univ.filter fun t => a ≤ t.val ∧ t.val < n
/-- The panels from number `s` on. -/
def panels (s : ℕ) : Finset (Fin 3) := Finset.univ.filter fun p => s ≤ p.val

theorem mem_before {n : ℕ} {t : Fin 24} : t ∈ before n ↔ t.val < n := by
  unfold before; rw [Finset.mem_filter]; exact and_iff_right (Finset.mem_univ _)
theorem mem_flying {n a : ℕ} {t : Fin 24} : t ∈ flying n a ↔ a ≤ t.val ∧ t.val < n := by
  unfold flying; rw [Finset.mem_filter]; exact and_iff_right (Finset.mem_univ _)
theorem mem_panels {s : ℕ} {p : Fin 3} : p ∈ panels s ↔ s ≤ p.val := by
  unfold panels; rw [Finset.mem_filter]; exact and_iff_right (Finset.mem_univ _)

theorem before_insert (t : Fin 24) : before (t.val + 1) = insert t (before t.val) := by
  ext u; rw [Finset.mem_insert, mem_before, mem_before, Fin.ext_iff]; omega
theorem notMem_before (t : Fin 24) : t ∉ before t.val := fun h => by have := mem_before.mp h; omega
theorem flying_start (t : Fin 24) {a : ℕ} (h : a ≤ t.val) : flying (t.val + 1) a = insert t (flying t.val a) := by
  ext u; rw [Finset.mem_insert, mem_flying, mem_flying, Fin.ext_iff]; omega
theorem notMem_flying_start (t : Fin 24) (a : ℕ) : t ∉ flying t.val a := fun h => by have := mem_flying.mp h; omega
theorem flying_wait (t : Fin 24) {n : ℕ} (h : t.val < n) : flying n t.val = insert t (flying n (t.val + 1)) := by
  ext u; rw [Finset.mem_insert, mem_flying, mem_flying, Fin.ext_iff]; omega
theorem notMem_flying_wait (t : Fin 24) (n : ℕ) : t ∉ flying n (t.val + 1) := fun h => by have := mem_flying.mp h; omega
theorem panels_insert (p : Fin 3) : panels p.val = insert p (panels (p.val + 1)) := by
  ext u; rw [Finset.mem_insert, mem_panels, mem_panels, Fin.ext_iff]; omega
theorem notMem_panels (p : Fin 3) : p ∉ panels (p.val + 1) := fun h => by have := mem_panels.mp h; omega

/-- The pieces that hold what they are to hold: the partial sums to send, the stored panels, what has arrived. -/
abbrev avail (s b : ℕ) (k : Key) : Prop := k.1 = 8 ∨ (k.1 = 0 ∧ k.2.val < s) ∨ ∃ t : Fin 24, t.val < b ∧ rkey t = k
/-- The pieces being sent. -/
abbrev lent (n a : ℕ) (k : Key) : Prop := ∃ t : Fin 24, a ≤ t.val ∧ t.val < n ∧ skey t = k
/-- The pieces in the device's hands. -/
def held (s n a b : ℕ) : Finset Key := Finset.univ.filter fun k => avail s b k ∧ ¬ lent n a k

/-! ## The state -/

theorem bigSep_put {J : Type} [DecidableEq J] {i : J} {s : Finset J} (h : i ∉ s) {Φ : J → sProp 𝕄} :
    bigSep (insert i s) Φ = iprop(Φ i ∗ bigSep s Φ) := bigSep_insert h

variable (I : Inp F)

/-- Every cell of the protocol. -/
def allCells : Finset (GSem nD τ sig) :=
  Finset.univ.image barCell ∪ (Finset.univ.image (fun u : Dev nD × Fin 3 => copyCell u.1 u.2)
    ∪ (Finset.univ.image (fun u : Dev nD × Fin 24 => sendCell u.1 u.2) ∪ Finset.univ.image (fun u : Dev nD × Fin 24 => recvCell u.1 u.2)))

theorem bar_mem (c : Dev nD) : barCell c ∈ allCells := Finset.mem_union_left _ (Finset.mem_image_of_mem _ (Finset.mem_univ c))
theorem copy_mem (c : Dev nD) (i : Fin 3) : copyCell c i ∈ allCells :=
  Finset.mem_union_right _ (Finset.mem_union_left _ (Finset.mem_image.mpr ⟨(c, i), Finset.mem_univ _, rfl⟩))
theorem send_mem (c : Dev nD) (t : Fin 24) : sendCell c t ∈ allCells :=
  Finset.mem_union_right _ (Finset.mem_union_right _ (Finset.mem_union_left _ (Finset.mem_image.mpr ⟨(c, t), Finset.mem_univ _, rfl⟩)))
theorem recv_mem (c : Dev nD) (t : Fin 24) : recvCell c t ∈ allCells :=
  Finset.mem_union_right _ (Finset.mem_union_right _ (Finset.mem_union_right _ (Finset.mem_image.mpr ⟨(c, t), Finset.mem_univ _, rfl⟩)))

/-- The invariants of all cells, under the names `κ`, and the cells' levels. -/
def Env (κ : GSem nD τ sig → ℕ) : sProp 𝕄 :=
  iprop((bigSep allCells fun g => cellInv ER (Rd I) (κ g) g) ∗ levAts L lv)
instance Env_persistent (κ : GSem nD τ sig → ℕ) : BI.Persistent (Env I κ) := by unfold Env; infer_instance

theorem inv_at (κ : GSem nD τ sig → ℕ) {g : GSem nD τ sig} (hg : g ∈ allCells) :
    (bigSep allCells fun g => (cellInv ER (Rd I) (κ g) g : sProp 𝕄)) ⊢ cellInv ER (Rd I) (κ g) g := bigSep_elim hg
theorem env_inv (κ : GSem nD τ sig → ℕ) {g : GSem nD τ sig} (hg : g ∈ allCells) : Env I κ ⊢ cellInv ER (Rd I) (κ g) g := by
  unfold Env
  iintro ⟨#HI, -⟩
  iapply (inv_at I κ hg); iexact HI
theorem env_lev (κ : GSem nD τ sig → ℕ) : Env I κ ⊢ (levAts L lv : sProp 𝕄) := by
  unfold Env; iintro ⟨-, #H⟩; iexact H

/-- What starting transfer `t` takes: the partner's piece it fills, and the right to pay both ends' cells. -/
def kit (c : Dev nD) (t : Fin 24) : sProp 𝕄 :=
  iprop(land (F := F) (peer t c) (rkey t) ∗ reached ER (recvCell (peer t c) t) 0 ∗ reached ER (sendCell c t) 0
    ∗ dutyTok ER (sendCell c t) 0 0 ∗ dutyTok ER (recvCell (peer t c) t) 0 0)

def St (κ : GSem nD τ sig → ℕ) (c : Dev nD) (s n a b : ℕ) : sProp 𝕄 :=
  iprop(Env I κ
    ∗ bigSep (since n) (kit c)
    ∗ bigSep (since a) (fun t => atPos ER (sendCell c t) 0 ∅ 0)
    ∗ bigSep (since b) (fun t => iprop(atPos ER (recvCell c t) 0 ∅ 0 ∗ cred (tallyAt (recvCell c t) () (amt t))))
    ∗ bigSep (flying n a) (fun t => cred (tallyAt (sendCell c t) () (amt t)))
    ∗ bigSep (before a) (fun t => semVal (sendCell c t) 0)
    ∗ bigSep (before b) (fun t => semVal (recvCell c t) 0)
    ∗ bigSep (panels s) (fun p => land (F := F) c (0, p))
    ∗ bigSep (held s n a b) (pts I c)
    ∗ (∃ W, owes (c : Thread nD τ) (owed c n) W))

section Step

variable (κ : GSem nD τ sig → ℕ) (c : Dev nD)

/-- Starting transfer `t`, from a source holding its piece into a destination that is the partner's piece. -/
theorem step_send (t : Fin 24)
    {α : Type} {Q : α → sProp 𝕄} {k : PUnit → Prog (TpuEff nD τ sig (Elt F) Λ₀ .tc) α} {s a b : ℕ} (ha : a ≤ t.val)
    (hH : held s t.val a b = insert (skey t) (held s (t.val + 1) a b)) (hHn : skey t ∉ held s (t.val + 1) a b)
    {sh : Shape} {src dst : Memref sig .tc .vmem sh .bf16} {n : Dev nD} (hn : n = peer t c)
    {qS qR : DmaSem sig} (hqS : qS = sendSem t) (hqR : qR = recvSem t)
    {hsc : (dst : Memref sig (Dev.tc n : Thread nD τ).2.kind .vmem sh .bf16).view.ref.isScScratch = false}
    {hsrc : src.view.WordExact} {hdst : dst.view.WordExact}
    {hsem : DmaTarget.Typed .vmem (.dma qR) (.remote (Dev.tc n : Thread nD τ) dst (.dma qS) hsc)}
    (hN : dst.view.dmaCredit = amt t)
    (fs : Buf (Elt F) (src.view.loc (c : Thread nD τ)))
    (hs : pts I c (skey t) = (src.view.loc (c : Thread nD τ) ↦[src.view.set]{fullShare} fs))
    (hd : (land (peer t c) (rkey t) : sProp 𝕄) ⊢ iprop(∃ fd, dst.view.loc (peer t c : Thread nD τ) ↦[dst.view.set]{fullShare} fd))
    (hp : ∀ fd, (dst.view.loc (peer t c : Thread nD τ) ↦[dst.view.set]{fullShare} (dst.view.write (Elt F) fd (src.view.read (Elt F) fs) Finset.univ))
      ⊢ pts I (peer t c) (rkey t)) :
    St I κ c s t.val a b ⊢ iprop((St I κ c s (t.val + 1) a b -∗ WP c (k ⟨⟩) Q)
      -∗ WP c (.op (.enqueueDma src (.remote (Dev.tc n : Thread nD τ) dst (.dma qS) hsc) (.dma qR) hsrc hdst hsem) k) Q) := by
  subst hn hqS hqR
  unfold St
  rw [since_insert t, bigSep_put (notMem_since t), hH, bigSep_put hHn, flying_start t ha, bigSep_put (notMem_flying_start t a)]
  iintro ⟨#He, ⟨Hkit, Hkits⟩, HatS, HatR, Hfly, HzS, HzR, Hland, ⟨Hsrc, Hheld⟩, ⟨%W, HO⟩⟩ Hk
  unfold kit
  icases Hkit with ⟨Hdst, #HrR, #HrS, HtS, HtR⟩
  ihave Hdst' := hd $$ Hdst
  icases Hdst' with ⟨%fd, Hdst⟩
  ihave Hsrc := (Entails.of_eq hs) $$ Hsrc
  iapply (Rounds.wp_send_pointsTo 𝒱₀ ER (Rd I) (c : Thread nD τ) none (sS := .dma (sendSem t)) (sem := .dma (recvSem t))
    (κ₁ := κ (sendCell c t)) (κ₂ := κ (recvCell (peer t c) t))
    (r₁ := 0) (r₂ := 0) (d₁ := 0) (d₂ := 0) (fd := fd)
    (by rw [duties_send]; exact Finset.mem_singleton_self _) (by rw [duties_recv]; exact Finset.mem_singleton_self _)
    () () (amt t) hN (amount_send I c t 0) (amount_recv I (peer t c) t 0) (owed c (t.val + 1)) (owed_step c t) (W := W)
    (by rw [payload_send, hs]) (by rw [payload_recv]; exact hp fd)) $$ [Hsrc Hdst HO HtS HtR]
  · isplitr; · iapply (env_inv I κ (send_mem c t)); iexact He
    isplitr; · iapply (env_inv I κ (recv_mem (peer t c) t)); iexact He
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨HcS, HO⟩
  iapply Hk
  isplitr; · iexact He
  isplitl [Hkits]; · iexact Hkits
  isplitl [HatS]; · iexact HatS
  isplitl [HatR]; · iexact HatR
  isplitl [Hfly HcS]
  · isplitl [HcS]; · iexact HcS
    iexact Hfly
  isplitl [HzS]; · iexact HzS
  isplitl [HzR]; · iexact HzR
  isplitl [Hland]; · iexact Hland
  isplitl [Hheld]; · iexact Hheld
  iexists W; iexact HO

/-- Waiting for transfer `t`'s send: the piece sent is back. -/
theorem step_sent (t : Fin 24)
    {α : Type} {Q : α → sProp 𝕄} {k : PUnit → Prog (TpuEff nD τ sig (Elt F) Λ₀ .tc) α} {s n b : ℕ} (hn : t.val < n)
    (hH : held s n (t.val + 1) b = insert (skey t) (held s n t.val b)) (hHn : skey t ∉ held s n t.val b)
    {sh : Shape} {src dst : Memref sig .tc .vmem sh .bf16} {q : DmaSem sig} (hq : q = sendSem t)
    {hsrc : src.view.WordExact} {hdst : dst.view.WordExact} (hN : dst.view.dmaCredit = amt t) :
    St I κ c s n t.val b ⊢ iprop((St I κ c s n (t.val + 1) b -∗ WP c (k ⟨⟩) Q) -∗ WP c (.op (.waitDma2 q src dst hsrc hdst) k) Q) := by
  subst hq
  unfold St
  rw [since_insert t, bigSep_put (notMem_since t), hH, bigSep_put hHn, flying_wait t hn, bigSep_put (notMem_flying_wait t n),
    before_insert t, bigSep_put (notMem_before t)]
  iintro ⟨#He, Hkits, ⟨Hat, HatS⟩, HatR, ⟨Hc, Hfly⟩, HzS, HzR, Hland, Hheld, ⟨%W, HO⟩⟩ Hk
  iapply (Rounds.wp_wait_rest_token 𝒱₀ ER (Rd I) (c : Thread nD τ) none (κ := κ (sendCell c t))
      (wpE_waitDma2_eq 𝒱₀ (c : Thread nD τ) none Set.univ) (Set.mem_univ _) () (O := owed c n) (W := W) (R := 0) (m := 0) (T := ∅)
      (by rw [Nat.zero_add, expect_send, hN])) $$ [Hc HO Hat]
  · isplitr; · iapply (env_inv I κ (send_mem c t)); iexact He
    isplitl [Hc]; · rw [hN]; iexact Hc
    isplitl [HO]; · iexact HO
    isplitr
    · iapply (mayWait_owed c (.dma (sendSem t)) n (by rw [use_send]; show 0 < 2 + n; omega)); iapply (env_lev I κ); iexact He
    iexact Hat
  iintro ⟨HO, Hat, -, Hpay⟩
  ihave Hp := (Entails.of_eq (rest_send I c t)) $$ Hpay
  imod (Rounds.cell_close ER (Rd I) (Set.mem_univ (κ (sendCell c t))) (fun h => h) (R := 0 + 1) (duties_later I (sendCell c t))) $$ [Hat] with Hz
  · isplitr; · iapply (env_inv I κ (send_mem c t)); iexact He
    iexact Hat
  iapply Hk
  isplitr; · iexact He
  isplitl [Hkits]; · iexact Hkits
  isplitl [HatS]; · iexact HatS
  isplitl [HatR]; · iexact HatR
  isplitl [Hfly]; · iexact Hfly
  isplitl [HzS Hz]
  · isplitl [Hz]; · iexact Hz
    iexact HzS
  isplitl [HzR]; · iexact HzR
  isplitl [Hland]; · iexact Hland
  isplitl [Hheld Hp]
  · isplitl [Hp]; · iexact Hp
    iexact Hheld
  iexists _; iexact HO

/-- Waiting for the arrival of the partner's transfer `t`: the piece it fills holds what it is to hold. -/
theorem step_arrived (t : Fin 24)
    {α : Type} {Q : α → sProp 𝕄} {k : PUnit → Prog (TpuEff nD τ sig (Elt F) Λ₀ .tc) α} {s n a : ℕ} (hn : t.val < n)
    (hH : held s n a (t.val + 1) = insert (rkey t) (held s n a t.val)) (hHn : rkey t ∉ held s n a t.val)
    {sh : Shape} {src dst : Memref sig .tc .vmem sh .bf16} {q : DmaSem sig} (hq : q = recvSem t)
    {hsrc : src.view.WordExact} {hdst : dst.view.WordExact} (hN : dst.view.dmaCredit = amt t) :
    St I κ c s n a t.val ⊢ iprop((St I κ c s n a (t.val + 1) -∗ WP c (k ⟨⟩) Q) -∗ WP c (.op (.waitDma2 q src dst hsrc hdst) k) Q) := by
  subst hq
  unfold St
  rw [since_insert t, bigSep_put (notMem_since t), hH, bigSep_put hHn, before_insert t, bigSep_put (notMem_before t)]
  iintro ⟨#He, Hkits, HatS, ⟨⟨Hat, Hc⟩, HatR⟩, Hfly, HzS, HzR, Hland, Hheld, ⟨%W, HO⟩⟩ Hk
  iapply (Rounds.wp_wait_rest_token 𝒱₀ ER (Rd I) (c : Thread nD τ) none (κ := κ (recvCell c t))
      (wpE_waitDma2_eq 𝒱₀ (c : Thread nD τ) none Set.univ) (Set.mem_univ _) () (O := owed c n) (W := W) (R := 0) (m := 0) (T := ∅)
      (by rw [Nat.zero_add, expect_recv, hN])) $$ [Hc HO Hat]
  · isplitr; · iapply (env_inv I κ (recv_mem c t)); iexact He
    isplitl [Hc]; · rw [hN]; iexact Hc
    isplitl [HO]; · iexact HO
    isplitr
    · iapply (mayWait_owed c (.dma (recvSem t)) n (by rw [use_recv]; show 2 + t.val < 2 + n; omega)); iapply (env_lev I κ); iexact He
    iexact Hat
  iintro ⟨HO, Hat, -, Hpay⟩
  ihave Hp := (Entails.of_eq (rest_recv I c t)) $$ Hpay
  imod (Rounds.cell_close ER (Rd I) (Set.mem_univ (κ (recvCell c t))) (fun h => h) (R := 0 + 1) (duties_later I (recvCell c t))) $$ [Hat] with Hz
  · isplitr; · iapply (env_inv I κ (recv_mem c t)); iexact He
    iexact Hat
  iapply Hk
  isplitr; · iexact He
  isplitl [Hkits]; · iexact Hkits
  isplitl [HatS]; · iexact HatS
  isplitl [HatR]; · iexact HatR
  isplitl [Hfly]; · iexact Hfly
  isplitl [HzS]; · iexact HzS
  isplitl [HzR Hz]
  · isplitl [Hz]; · iexact Hz
    iexact HzR
  isplitl [Hland]; · iexact Hland
  isplitl [Hheld Hp]
  · isplitl [Hp]; · iexact Hp
    iexact Hheld
  iexists _; iexact HO

end Step

end Cert.AllReduce

end
-- ==== Proof.Moves.lean ====
/-
The steps at the views the kernel names: a panel of a block of the result buffer, or of a partial-sum buffer.
-/
module

public import proofs.«01_k».proof.Proof.Steps

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Views of a panel -/

/-- A panel of the result buffer, at whatever rows. -/
abbrev outView (p : Fin 3) (off : Fin 2 → ℕ) (inb : ∀ a, off a + (![256, wid p] : Fin 2 → ℕ) a ≤ S2048x2048.size a) :
    Memref sig .tc .vmem (Rect.unit (s := S2048x2048) off ![256, wid p] inb).shape .bf16 :=
  oM.slice (Rect.unit (s := S2048x2048) off ![256, wid p] inb) (fun _ => rfl)

/-- Its credit is the panel's, wherever it is. -/
theorem out_credit (p : Fin 3) (off : Fin 2 → ℕ) (inb) : (outView p off inb).view.dmaCredit = panelAmt p := by
  rfl

theorem panel_inb (p : Fin 3) : ∀ a, (![0, col p] : Fin 2 → ℕ) a + (![256, wid p] : Fin 2 → ℕ) a ≤ S256x2048.size a := by
  revert p; decide
/-- A panel of a partial-sum buffer. -/
abbrev sumView (b : Memref sig .tc .vmem S256x2048 .bf16) (p : Fin 3) :
    Memref sig .tc .vmem (Rect.unit (s := S256x2048) ![0, col p] ![256, wid p] (panel_inb p)).shape .bf16 :=
  b.slice (Rect.unit (s := S256x2048) ![0, col p] ![256, wid p] (panel_inb p)) (fun _ => rfl)
theorem sum_credit (b : Memref sig .tc .vmem S256x2048 .bf16) (p : Fin 3) : (sumView b p).view.dmaCredit = panelAmt p := by
  rfl

/-- What is written over a view with what another buffer's view at the same place held agrees with that buffer there. -/
theorem write_read_agree {sp : Space} {sh : Shape} {e : EltTy} (v : View sig .tc sp sh e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ x), View.read_apply]
  simp

/-! ## Pieces as views -/

section Pieces

variable (I : Inp F) (c : Dev nD)

/-- The relative block transfer `t` fills at its receiver, when it is one of the gathering ones. -/
def rb (t : Fin 24) : Fin 8 := ⟨(rk t).val % 8, Nat.mod_lt _ (by decide)⟩

theorem piece_out (k : Key) (h : k.1.val < 8) (o s r) : piece (F := F) c k o s r
    = (((c : Thread nD τ).loc cc0_stg1_0) ↦[region (bx (blk c) ⟨k.1.val, h⟩) k.2]{fullShare} o : sProp 𝕄) := by
  unfold piece; exact dif_pos h
theorem piece_send (p : Fin 3) (o s r) : piece (F := F) c (8, p) o s r
    = (((c : Thread nD τ).loc cc0_scratch3) ↦[panel p]{fullShare} s : sProp 𝕄) := by
  unfold piece; exact (dif_neg (Nat.lt_irrefl 8)).trans (if_pos rfl)
theorem piece_recv (p : Fin 3) (o s r) : piece (F := F) c (9, p) o s r
    = (((c : Thread nD τ).loc cc0_scratch4) ↦[panel p]{fullShare} r : sProp 𝕄) := by
  unfold piece; exact (dif_neg (show ¬ 9 < 8 by decide)).trans (if_neg (show ¬ 9 = 8 by decide))

theorem skey_eq (t : Fin 24) (ht : 3 ≤ t.val) : ∃ h : (skey t).1.val < 8, (⟨(skey t).1.val, h⟩ : Fin 8) = bk t := by
  revert t; decide
theorem rkey_eq (t : Fin 24) (ht : 3 ≤ t.val) : ∃ h : (rkey t).1.val < 8, (⟨(rkey t).1.val, h⟩ : Fin 8) = rb t := by
  revert t; decide
/-- A gathering transfer fills at the receiver the very block it reads at the sender. -/
theorem same_block (t : Fin 24) (ht : 3 ≤ t.val) : bx (blk (peer t c)) (rb t) = bx (blk c) (bk t) := by
  revert c t; decide +kernel
theorem same_block' (t : Fin 24) (ht : 3 ≤ t.val) : bx (blk c) (rb t) = bx (blk (peer t c)) (bk t) := by
  revert c t; decide +kernel
theorem key_sum (t : Fin 24) (ht : t.val < 3) : skey t = (8, pn t) ∧ rkey t = (9, pn t) ∧ ax t = 1 := by
  revert t; decide

theorem out_set (t : Fin 24) (inb) : (outView (pn t) (offOf c t) inb).view.set = region (bx (blk c) (bk t)) (pn t) :=
  (View.set_slice_whole _ _).trans (rect_region _ _ inb (offOf_eq c t) rfl)

/-- The source of a gathering transfer holds its piece of the result; -/
theorem out_source (t : Fin 24) (ht : 3 ≤ t.val) (inb) : pts I c (skey t)
    = ((outView (pn t) (offOf c t) inb).view.loc (c : Thread nD τ) ↦[(outView (pn t) (offOf c t) inb).view.set]{fullShare} whole I : sProp 𝕄) := by
  obtain ⟨h, e⟩ := skey_eq t ht
  rw [out_set c t inb, ← e]
  exact piece_out c (skey t) h _ _ _
/-- its destination is the partner's piece at the same elements, -/
theorem out_piece (t : Fin 24) (ht : 3 ≤ t.val) (inb) (o s r) : piece (F := F) (peer t c) (rkey t) o s r
    = ((outView (pn t) (offOf c t) inb).view.loc (peer t c : Thread nD τ) ↦[(outView (pn t) (offOf c t) inb).view.set]{fullShare} o : sProp 𝕄) := by
  obtain ⟨h, e⟩ := rkey_eq t ht
  rw [out_set c t inb, ← same_block c t ht, ← e]
  exact piece_out (peer t c) (rkey t) h _ _ _
theorem out_dest (t : Fin 24) (ht : 3 ≤ t.val) (inb) : (land (peer t c) (rkey t) : sProp 𝕄)
    ⊢ iprop(∃ fd, (outView (pn t) (offOf c t) inb).view.loc (peer t c : Thread nD τ) ↦[(outView (pn t) (offOf c t) inb).view.set]{fullShare} fd) := by
  unfold land
  iintro ⟨%o, %s, %r, H⟩
  iexists o
  iapply (Entails.of_eq (out_piece c t ht inb o s r)); iexact H
/-- and what is written there is that piece of the result. -/
theorem out_written (t : Fin 24) (ht : 3 ≤ t.val) (inb) (fd : Vec F S2048x2048 .bf16) :
    ((outView (pn t) (offOf c t) inb).view.loc (peer t c : Thread nD τ) ↦[(outView (pn t) (offOf c t) inb).view.set]{fullShare}
        ((outView (pn t) (offOf c t) inb).view.write (Elt F) fd ((outView (pn t) (offOf c t) inb).view.read (Elt F) (whole I)) Finset.univ) : sProp 𝕄)
      ⊢ pts I (peer t c) (rkey t) := by
  unfold pts
  rw [out_piece c t ht inb]
  exact Entails.of_eq (pointsTo_congr (write_read_agree (outView (pn t) (offOf c t) inb).view fd (whole I)))

theorem sum_send_set (p : Fin 3) : (sumView sendM p).view.set = panel p :=
  (View.set_slice_whole _ _).trans (rect_panel _ (panel_inb p) rfl rfl)
theorem sum_recv_set (p : Fin 3) : (sumView recvM p).view.set = panel p :=
  (View.set_slice_whole _ _).trans (rect_panel _ (panel_inb p) rfl rfl)
/-- The same of the transfers of partial sums. -/
theorem sum_source (t : Fin 24) (ht : t.val < 3) : pts I c (skey t)
    = ((sumView sendM (pn t)).view.loc (c : Thread nD τ) ↦[(sumView sendM (pn t)).view.set]{fullShare} sent I c : sProp 𝕄) := by
  rw [sum_send_set, (key_sum t ht).1]
  exact piece_send c (pn t) _ _ _
theorem sum_piece (t : Fin 24) (ht : t.val < 3) (o s r) : piece (F := F) (peer t c) (rkey t) o s r
    = ((sumView recvM (pn t)).view.loc (peer t c : Thread nD τ) ↦[(sumView recvM (pn t)).view.set]{fullShare} r : sProp 𝕄) := by
  rw [sum_recv_set, (key_sum t ht).2.1]
  exact piece_recv (peer t c) (pn t) _ _ _
theorem sum_dest (t : Fin 24) (ht : t.val < 3) : (land (peer t c) (rkey t) : sProp 𝕄)
    ⊢ iprop(∃ fd, (sumView recvM (pn t)).view.loc (peer t c : Thread nD τ) ↦[(sumView recvM (pn t)).view.set]{fullShare} fd) := by
  unfold land
  iintro ⟨%o, %s, %r, H⟩
  iexists r
  iapply (Entails.of_eq (sum_piece c t ht o s r)); iexact H
theorem sum_written (t : Fin 24) (ht : t.val < 3) (fd : Vec F S256x2048 .bf16) :
    ((sumView recvM (pn t)).view.loc (peer t c : Thread nD τ) ↦[(sumView recvM (pn t)).view.set]{fullShare}
        ((sumView recvM (pn t)).view.write (Elt F) fd ((sumView sendM (pn t)).view.read (Elt F) (sent I c)) Finset.univ) : sProp 𝕄)
      ⊢ pts I (peer t c) (rkey t) := by
  unfold pts
  rw [sum_piece c t ht, show pr 1 (peer t c) = c by rw [peer, (key_sum t ht).2.2, pr_pr]]
  exact Entails.of_eq (pointsTo_congr (write_read_agree (sumView recvM (pn t)).view fd (sent I c)))

end Pieces

/-! ## The steps -/

/-- Transfer `t` is the next to start, and its source is in hand. -/
abbrev CanSend (t : Fin 24) (s m a b : ℕ) : Prop :=
  m = t.val ∧ a ≤ t.val ∧ held s t.val a b = insert (skey t) (held s (t.val + 1) a b) ∧ skey t ∉ held s (t.val + 1) a b
/-- Transfer `t`'s send is the next to wait for, and its source is not in hand. -/
abbrev CanSent (t : Fin 24) (s n m b : ℕ) : Prop :=
  m = t.val ∧ t.val < n ∧ held s n (t.val + 1) b = insert (skey t) (held s n t.val b) ∧ skey t ∉ held s n t.val b
/-- Transfer `t`'s arrival is the next to wait for, and the piece it fills is not in hand. -/
abbrev CanArrive (t : Fin 24) (s n a m : ℕ) : Prop :=
  m = t.val ∧ t.val < n ∧ held s n a (t.val + 1) = insert (rkey t) (held s n a t.val) ∧ rkey t ∉ held s n a t.val

section Moves

variable (I : Inp F) (κ : GSem nD τ sig → ℕ) (c : Dev nD)

/-- Starting a gathering transfer. -/
theorem gather_send (t : Fin 24) (s m a b : ℕ) (h : 3 ≤ t.val ∧ CanSend t s m a b)
    {α : Type} {Q : α → sProp 𝕄} {k : PUnit → Prog (TpuEff nD τ sig (Elt F) Λ₀ .tc) α}
    {n : Dev nD} (hn : n = peer t c) {qS qR : DmaSem sig} (hqS : qS = sendSem t) (hqR : qR = recvSem t) {inb}
    {hsc : ((outView (pn t) (offOf c t) inb) : Memref sig (Dev.tc n : Thread nD τ).2.kind .vmem _ .bf16).view.ref.isScScratch = false}
    {hsrc hdst} {hsem : DmaTarget.Typed .vmem (.dma qR) (.remote (Dev.tc n : Thread nD τ) (outView (pn t) (offOf c t) inb) (.dma qS) hsc)} :
    St I κ c s m a b ⊢ iprop((St I κ c s (m + 1) a b -∗ WP c (k ⟨⟩) Q)
      -∗ WP c (.op (.enqueueDma (outView (pn t) (offOf c t) inb) (.remote (Dev.tc n : Thread nD τ) (outView (pn t) (offOf c t) inb) (.dma qS) hsc)
          (.dma qR) hsrc hdst hsem) k) Q) := by
  obtain ⟨ht, rfl, ha, hH, hHn⟩ := h
  exact step_send I κ c t ha hH hHn hn hqS hqR (out_credit _ _ _) (whole I) (out_source I c t ht inb) (out_dest c t ht inb) (out_written I c t ht inb)

/-- Starting a transfer of partial sums. -/
theorem sum_send (t : Fin 24) (s m a b : ℕ) (h : t.val < 3 ∧ CanSend t s m a b)
    {α : Type} {Q : α → sProp 𝕄} {k : PUnit → Prog (TpuEff nD τ sig (Elt F) Λ₀ .tc) α}
    {n : Dev nD} (hn : n = peer t c) {qS qR : DmaSem sig} (hqS : qS = sendSem t) (hqR : qR = recvSem t)
    {hsc : ((sumView recvM (pn t)) : Memref sig (Dev.tc n : Thread nD τ).2.kind .vmem _ .bf16).view.ref.isScScratch = false}
    {hsrc hdst} {hsem : DmaTarget.Typed .vmem (.dma qR) (.remote (Dev.tc n : Thread nD τ) (sumView recvM (pn t)) (.dma qS) hsc)} :
    St I κ c s m a b ⊢ iprop((St I κ c s (m + 1) a b -∗ WP c (k ⟨⟩) Q)
      -∗ WP c (.op (.enqueueDma (sumView sendM (pn t)) (.remote (Dev.tc n : Thread nD τ) (sumView recvM (pn t)) (.dma qS) hsc)
          (.dma qR) hsrc hdst hsem) k) Q) := by
  obtain ⟨ht, rfl, ha, hH, hHn⟩ := h
  exact step_send I κ c t ha hH hHn hn hqS hqR (sum_credit _ _) (sent I c) (sum_source I c t ht) (sum_dest c t ht) (sum_written I c t ht)

/-- Waiting for a gathering transfer's send, -/
theorem gather_sent (t : Fin 24) (s n m b : ℕ) (h : CanSent t s n m b)
    {α : Type} {Q : α → sProp 𝕄} {k : PUnit → Prog (TpuEff nD τ sig (Elt F) Λ₀ .tc) α}
    {q : DmaSem sig} (hq : q = sendSem t) {inb} {hsrc hdst} :
    St I κ c s n m b ⊢ iprop((St I κ c s n (m + 1) b -∗ WP c (k ⟨⟩) Q)
      -∗ WP c (.op (.waitDma2 q (outView (pn t) (offOf c t) inb) (outView (pn t) (offOf c t) inb) hsrc hdst) k) Q) := by
  obtain ⟨rfl, hn, hH, hHn⟩ := h
  exact step_sent I κ c t hn hH hHn hq (out_credit _ _ _)

/-- for a gathering transfer's arrival (the kernel names the place it SENT to, of the same size), -/
theorem gather_arrived (t : Fin 24) (s n a m : ℕ) (h : CanArrive t s n a m)
    {α : Type} {Q : α → sProp 𝕄} {k : PUnit → Prog (TpuEff nD τ sig (Elt F) Λ₀ .tc) α}
    {q : DmaSem sig} (hq : q = recvSem t) {inb} {hsrc hdst} :
    St I κ c s n a m ⊢ iprop((St I κ c s n a (m + 1) -∗ WP c (k ⟨⟩) Q)
      -∗ WP c (.op (.waitDma2 q (outView (pn t) (offOf c t) inb) (outView (pn t) (offOf c t) inb) hsrc hdst) k) Q) := by
  obtain ⟨rfl, hn, hH, hHn⟩ := h
  exact step_arrived I κ c t hn hH hHn hq (out_credit _ _ _)

/-- for a partial sum's send (the kernel names the two ends in the other order), -/
theorem sum_sent (t : Fin 24) (s n m b : ℕ) (h : CanSent t s n m b)
    {α : Type} {Q : α → sProp 𝕄} {k : PUnit → Prog (TpuEff nD τ sig (Elt F) Λ₀ .tc) α}
    {q : DmaSem sig} (hq : q = sendSem t) {hsrc hdst} :
    St I κ c s n m b ⊢ iprop((St I κ c s n (m + 1) b -∗ WP c (k ⟨⟩) Q)
      -∗ WP c (.op (.waitDma2 q (sumView recvM (pn t)) (sumView sendM (pn t)) hsrc hdst) k) Q) := by
  obtain ⟨rfl, hn, hH, hHn⟩ := h
  exact step_sent I κ c t hn hH hHn hq (sum_credit _ _)

/-- and for a partial sum's arrival. -/
theorem sum_arrived (t : Fin 24) (s n a m : ℕ) (h : CanArrive t s n a m)
    {α : Type} {Q : α → sProp 𝕄} {k : PUnit → Prog (TpuEff nD τ sig (Elt F) Λ₀ .tc) α}
    {q : DmaSem sig} (hq : q = recvSem t) {hsrc hdst} :
    St I κ c s n a m ⊢ iprop((St I κ c s n a (m + 1) -∗ WP c (k ⟨⟩) Q)
      -∗ WP c (.op (.waitDma2 q (sumView sendM (pn t)) (sumView recvM (pn t)) hsrc hdst) k) Q) := by
  obtain ⟨rfl, hn, hH, hHn⟩ := h
  exact step_arrived I κ c t hn hH hHn hq (sum_credit _ _)

end Moves

end Cert.AllReduce

end
-- ==== Proof.Store.lean ====
/-
Storing a panel of a device's own block: the kept sum and the partial sum received, added.
-/
module

public import proofs.«01_k».proof.Proof.Moves

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem read_whole_slice {b : Ref sig .tc} (r : Rect b.ty.shape) (f : b.ty.Contents (Elt F)) (x : r.shape.Idx) :
    ((Memref.whole b).access r : View sig .tc _ _ _).read (Elt F) f x = f (r.emb x) := rfl
theorem write_whole_slice {b : Ref sig .tc} (r : Rect b.ty.shape) (f : b.ty.Contents (Elt F)) (w : r.shape.Idx → Elt F b.ty.elt) (x : r.shape.Idx) :
    ((Memref.whole b).access r : View sig .tc _ _ _).write (Elt F) f w Finset.univ (r.emb x) = w x :=
  View.write_emb_of_mem _ _ (Finset.mem_univ x)

/-- The rectangle of a panel of a 256-row buffer; -/
abbrev sumRect (p : Fin 3) : Rect S256x2048 := Rect.unit (s := S256x2048) ![0, col p] ![256, wid p] (panel_inb p)
/-- and of a panel of the result, at `off`. -/
abbrev outRect (p : Fin 3) (off : Fin 2 → ℕ) (inb : ∀ a, off a + (![256, wid p] : Fin 2 → ℕ) a ≤ S2048x2048.size a) : Rect S2048x2048 :=
  Rect.unit (s := S2048x2048) off ![256, wid p] inb

/-- One resource taken out of a family. -/
theorem bigSep_take {ι : Type} [DecidableEq ι] {s : Finset ι} {i : ι} {Φ : ι → sProp 𝕄} (h : i ∈ s) :
    bigSep s Φ = iprop(Φ i ∗ bigSep (s.erase i) Φ) := bigSep_erase h

section Store

variable (I : Inp F) (κ : GSem nD τ sig → ℕ) (c : Dev nD)

/-- The offsets of the three stores. -/
def offStore : Fin 3 → Fin 2 → ℕ := ![k0_off3 c, k0_off5 c, k0_off7 c]
theorem offStore_eq (p : Fin 3) : offStore c p = ![256 * (blk c).val, col p] := by
  obtain ⟨h0, h1, h2⟩ := off_store c
  fin_cases p
  · exact h0
  · exact h1
  · exact h2

/-- An element of the panel, in the block and in the result. -/
theorem emb_store (p : Fin 3) (inb) (x : (sumRect p).shape.Idx) :
    (outRect p (offStore c p) inb).emb x = inBlock (blk c) ((sumRect p).emb x) := by
  funext a
  refine Fin.ext ?_
  fin_cases a
  · show offStore c p 0 + 1 * (x 0).val = (inBlock (blk c) ((sumRect p).emb x) 0).val
    rw [inBlock_row, offStore_eq]
    show 256 * (blk c).val + 1 * (x 0).val = 256 * (blk c).val + (0 + 1 * (x 0).val)
    omega
  · show offStore c p 1 + 1 * (x 1).val = (inBlock (blk c) ((sumRect p).emb x) 1).val
    rw [inBlock_col, offStore_eq]
    rfl

theorem store_set (p : Fin 3) (inb) : ((oM : Memref sig .tc .vmem S2048x2048 .bf16).access (outRect p (offStore c p) inb)).set = region (blk c) p :=
  (View.set_slice_whole _ _).trans (rect_region (blk c) p inb (offStore_eq c p) rfl)
theorem load_set_recv (p : Fin 3) : ((recvM : Memref sig .tc .vmem S256x2048 .bf16).access (sumRect p)).set = panel p :=
  (View.set_slice_whole _ _).trans (rect_panel p (panel_inb p) rfl rfl)

/-- What the store writes is the panel of the un-normalised result. -/
theorem stored (p : Fin 3) (inb) (o : Vec F S2048x2048 .bf16) (w : (outRect p (offStore c p) inb).shape.Idx → Elt F .bf16)
    (hw : ∀ x, w x = yv (kept I c ((sumRect p).emb x)) (sent I (pr 1 c) ((sumRect p).emb x))) :
    ∀ i ∈ region (blk c) p, ((oM : Memref sig .tc .vmem S2048x2048 .bf16).access (outRect p (offStore c p) inb)).write (Elt F) o w Finset.univ i = whole I i := by
  intro i hi
  rw [← store_set c p inb] at hi
  obtain ⟨x, -, rfl⟩ := Finset.mem_map.mp hi
  refine (write_whole_slice (b := cc0_stg1_0) (outRect p (offStore c p) inb) o w x).trans ?_
  show w x = whole I ((outRect p (offStore c p) inb).emb x)
  rw [hw, emb_store, whole_inBlock]
  rfl

/-- The next panel to store is `p`; its partial sum has arrived. -/
abbrev CanStore (p : Fin 3) (s n a b : ℕ) : Prop :=
  s = p.val ∧ (9, p) ∈ held p.val n a b ∧ held (p.val + 1) n a b = insert (0, p) (held p.val n a b) ∧ (0, p) ∉ held p.val n a b

/-- The two loads, the load whose result is not used, and the store. -/
theorem step_store (p : Fin 3) (s n a b : ℕ) (h : CanStore p s n a b) {α : Type} {Q : α → sProp 𝕄}
    {k : PUnit → Prog (TpuEff nD τ sig (Elt F) Λ₀ .tc) α} {inb}
    {f : ((sumRect p).shape.Idx → Elt F .f32) → ((sumRect p).shape.Idx → Elt F .bf16) → ((sumRect p).shape.Idx → Elt F .bf16)}
    (hf : ∀ u v x, f u v x = yv (u x) (v x)) {h₁ h₂ h₃ h₄ h₅} :
    iprop(St I κ c s n a b ∗ ((c : Thread nD τ).loc cc0_scratch0 ↦{fullShare} kept I c))
      ⊢ iprop(((St I κ c (s + 1) n a b ∗ ((c : Thread nD τ).loc cc0_scratch0 ↦{fullShare} kept I c)) -∗ WP c (k ⟨⟩) Q)
      -∗ WP c (.op (.load keptM (sumRect p).toLoadRect h₁) fun (u : (sumRect p).shape.Idx → Elt F .f32) => .op (.load recvM (sumRect p).toLoadRect h₂) fun (v : (sumRect p).shape.Idx → Elt F .bf16) =>
          .op (.load oM (outRect p (offStore c p) inb).toLoadRect h₃) fun _ => .op (.store oM (outRect p (offStore c p) inb) (f u v) Finset.univ h₄ h₅) k) Q) := by
  obtain ⟨rfl, h9, hH, hHn⟩ := h
  unfold St
  rw [hH, bigSep_put hHn, panels_insert p, bigSep_put (notMem_panels p)]
  iintro ⟨⟨#He, Hkits, HatS, HatR, Hfly, HzS, HzR, ⟨Hl, Hland⟩, Hheld, HO⟩, Hkept⟩ Hk
  unfold land
  icases Hl with ⟨%o, %s', %r', Hl⟩
  ihave Ho := (Entails.of_eq (piece_out c (0, p) (Nat.zero_lt_succ 7) o s' r')) $$ Hl
  rw [show (⟨((0, p) : Key).1.val, Nat.zero_lt_succ 7⟩ : Fin 8) = 0 from rfl, bx_zero]
  ihave Hh := (Entails.of_eq (bigSep_take h9)) $$ Hheld
  icases Hh with ⟨H9, Hheld⟩
  ihave Hr := (Entails.of_eq (show pts I c (9, p) = _ from piece_recv c p _ _ _)) $$ H9
  iapply (wp_load_rect 𝒱₀ (c : Thread nD τ) none Set.univ (m := keptM) (r := sumRect p) (Finset.subset_univ _)) $$ Hkept; iintro Hkept
  iapply (wp_load_rect 𝒱₀ (c : Thread nD τ) none Set.univ (m := recvM) (r := sumRect p) (by rw [load_set_recv])) $$ Hr; iintro Hr
  iapply (wp_load_rect 𝒱₀ (c : Thread nD τ) none Set.univ (m := oM) (r := outRect p (offStore c p) inb) (by rw [store_set])) $$ Ho; iintro Ho
  iapply (wp_store 𝒱₀ (c : Thread nD τ) none Set.univ (m := oM) (r := outRect p (offStore c p) inb) (Mk := Finset.univ)
    (by rw [View.setOn_univ, store_set])) $$ Ho; iintro Ho
  ihave Ho := (Entails.of_eq (pointsTo_congr (stored I c p inb o _ fun x => hf _ _ x))) $$ Ho
  iapply Hk
  isplitr [Hkept]
  · isplitr; · iexact He
    isplitl [Hkits]; · iexact Hkits
    isplitl [HatS]; · iexact HatS
    isplitl [HatR]; · iexact HatR
    isplitl [Hfly]; · iexact Hfly
    isplitl [HzS]; · iexact HzS
    isplitl [HzR]; · iexact HzR
    isplitl [Hland]; · iexact Hland
    isplitl [Hheld Ho Hr]
    · isplitl [Ho]
      · unfold pts
        iapply (Entails.of_eq (piece_out c (0, p) (Nat.zero_lt_succ 7) _ _ _).symm)
        rw [show (⟨((0, p) : Key).1.val, Nat.zero_lt_succ 7⟩ : Fin 8) = 0 from rfl, bx_zero]
        iexact Ho
      · iapply (Entails.of_eq (bigSep_take h9).symm)
        isplitl [Hr]
        · iapply (Entails.of_eq (show pts I c (9, p) = _ from piece_recv c p _ _ _).symm); iexact Hr
        · iexact Hheld
    iexact HO
  · iexact Hkept

end Store

end Cert.AllReduce

end
-- ==== Proof.Keys.lean ====
/-
The buffers as pieces: how a device's buffers split at the start and join at the end.
-/
module

public import proofs.«01_k».proof.Proof.Moves

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sets of pieces -/

def outKeys : Finset Key := Finset.univ.filter fun k => k.1.val < 8
def sendKeys : Finset Key := Finset.univ.filter fun k => k.1 = 8
def recvKeys : Finset Key := Finset.univ.filter fun k => k.1 = 9

/-- The pieces of one buffer, counted by block and panel, or by panel; -/
def outKey : Fin 8 × Fin 3 ↪ Key := ⟨fun u => (⟨u.1.val, by have h := u.1.isLt; omega⟩, u.2), fun u v h => by revert u v; decide⟩
def keyAt (j : Fin 10) : Fin 3 ↪ Key := ⟨fun p => (j, p), fun _ _ h => (Prod.mk.inj h).2⟩
/-- those the partners fill, by transfer. -/
def rkeyEmb : Fin 24 ↪ Key := ⟨rkey, by decide +kernel⟩

theorem outKeys_eq : outKeys = Finset.univ.map outKey := by decide +kernel
theorem sendKeys_eq : sendKeys = Finset.univ.map (keyAt 8) := by decide +kernel
theorem recvKeys_eq : recvKeys = Finset.univ.map (keyAt 9) := by decide +kernel
/-- A device's own block's pieces and those the partners fill are the result buffer's and the receive buffer's. -/
theorem start_keys : outKeys ∪ recvKeys = Finset.univ.map (keyAt 0) ∪ Finset.univ.map rkeyEmb := by decide +kernel
theorem start_disjoint : Disjoint (Finset.univ.map (keyAt 0)) (Finset.univ.map rkeyEmb) := by decide +kernel
theorem out_recv_disjoint : Disjoint outKeys recvKeys := by decide +kernel
theorem all_keys : (Finset.univ : Finset Key) = outKeys ∪ (sendKeys ∪ recvKeys) := by decide +kernel
theorem out_rest_disjoint : Disjoint outKeys (sendKeys ∪ recvKeys) := by decide +kernel
theorem send_recv_disjoint : Disjoint sendKeys recvKeys := by decide +kernel
theorem held_start : held 0 0 0 0 = sendKeys := by decide +kernel
theorem held_end : held 3 24 24 24 = Finset.univ := by decide +kernel

section Whole

variable (c : Dev nD) (o : Vec F S2048x2048 .bf16) (s r : Vec F S256x2048 .bf16)

/-- Block numbers relative to block `b`, as a permutation. -/
def relative (b : Fin 8) : Fin 8 × Fin 3 ≃ Fin 8 × Fin 3 :=
  ⟨fun u => (bx b u.1, u.2), fun u => (bx b u.1, u.2), fun u => by simp only [bx_bx], fun u => by simp only [bx_bx]⟩

/-- A buffer held whole is its pieces held. -/
theorem out_pieces : (((c : Thread nD τ).loc cc0_stg1_0 ↦{fullShare} o) : sProp 𝕄) = bigSep outKeys fun k => piece (F := F) c k o s r := by
  rw [outKeys_eq, bigSep_map, show (Finset.univ : Finset (Idx ((c : Thread nD τ).loc cc0_stg1_0))) = _ from region_cover.symm,
    pointsTo_biUnion _ _ (fun u _ u' _ h => region_disjoint u u' h), bigSep_univ_equiv (relative (blk c))]
  exact bigSep_congr fun u _ => (piece_out c (outKey u) u.1.isLt o s r).symm
theorem send_pieces : (((c : Thread nD τ).loc cc0_scratch3 ↦{fullShare} s) : sProp 𝕄) = bigSep sendKeys fun k => piece (F := F) c k o s r := by
  rw [sendKeys_eq, bigSep_map, show (Finset.univ : Finset (Idx ((c : Thread nD τ).loc cc0_scratch3))) = _ from panel_cover.symm,
    pointsTo_biUnion _ _ (fun p _ p' _ h => panel_disjoint p p' h)]
  exact bigSep_congr fun p _ => (piece_send c p o s r).symm
theorem recv_pieces : (((c : Thread nD τ).loc cc0_scratch4 ↦{fullShare} r) : sProp 𝕄) = bigSep recvKeys fun k => piece (F := F) c k o s r := by
  rw [recvKeys_eq, bigSep_map, show (Finset.univ : Finset (Idx ((c : Thread nD τ).loc cc0_scratch4))) = _ from panel_cover.symm,
    pointsTo_biUnion _ _ (fun p _ p' _ h => panel_disjoint p p' h)]
  exact bigSep_congr fun p _ => (piece_recv c p o s r).symm

theorem piece_land (k : Key) : piece (F := F) c k o s r ⊢ land c k := by
  unfold land; iintro H; iexists o, s, r; iexact H

/-- At the start, the result buffer and the receive buffer are a device's own panels and the places its partners fill. -/
theorem pieces_start : iprop(((c : Thread nD τ).loc cc0_stg1_0 ↦{fullShare} o) ∗ ((c : Thread nD τ).loc cc0_scratch4 ↦{fullShare} r))
    ⊢ (iprop((bigSep Finset.univ fun p : Fin 3 => land c (0, p)) ∗ bigSep Finset.univ fun t : Fin 24 => land c (rkey t)) : sProp 𝕄) := by
  rw [out_pieces c o r r, recv_pieces c o r r]
  refine (Entails.of_eq (bigSep_union out_recv_disjoint).symm).trans ((bigSep_mono fun k _ => piece_land c o r r k).trans ?_)
  rw [start_keys, bigSep_union start_disjoint, bigSep_map, bigSep_map]
  exact Entails.refl _

/-- At the end, all pieces held are the three buffers whole. -/
theorem pieces_end (I : Inp F) : (bigSep Finset.univ (pts I c) : sProp 𝕄)
    ⊢ iprop(((c : Thread nD τ).loc cc0_stg1_0 ↦{fullShare} whole I) ∗ ((c : Thread nD τ).loc cc0_scratch3 ↦{fullShare} sent I c)
      ∗ ((c : Thread nD τ).loc cc0_scratch4 ↦{fullShare} sent I (pr 1 c))) := by
  rw [out_pieces c (whole I) (sent I c) (sent I (pr 1 c)), send_pieces c (whole I) (sent I c) (sent I (pr 1 c)),
    recv_pieces c (whole I) (sent I c) (sent I (pr 1 c)), all_keys, bigSep_union out_rest_disjoint, bigSep_union send_recv_disjoint]
  exact Entails.refl _

end Whole

/-! ## The transfers, by axis -/

theorem along_cover : (Finset.univ : Finset (Fin 24)) = (Finset.univ : Finset (Fin 3)).biUnion along := by decide +kernel
theorem by_axis (Φ : Fin 24 → sProp 𝕄) : bigSep Finset.univ Φ = bigSep Finset.univ fun a : Fin 3 => bigSep (along a) Φ := by
  rw [along_cover, bigSep_biUnion_eq]
  intro a _ b _ h
  exact Finset.disjoint_filter.mpr fun t _ e e' => h (e.symm.trans e')

/-- What the three barrier signals bring: every place this device's transfers fill. -/
theorem barPays (c : Dev nD) : (bigSep Finset.univ fun a : Fin 3 => barPay (F := F) a c)
    = bigSep Finset.univ fun t : Fin 24 => iprop(land (F := F) (peer t c) (rkey t) ∗ reached ER (recvCell (peer t c) t) 0) := by
  rw [by_axis]
  refine bigSep_congr fun a _ => ?_
  unfold barPay
  refine bigSep_congr fun t ht => ?_
  rw [show peer t c = pr a c from congrArg (fun x => pr x c) (Finset.mem_filter.mp ht).2]

end Cert.AllReduce

end
-- ==== Proof.Meet.lean ====
/-
Before the exchange: the barrier's signals and wait, and the three local copies.
-/
module

public import proofs.«01_k».proof.Proof.Store
public import proofs.«01_k».proof.Proof.Keys

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device starts with -/

section Before

variable (I : Inp F) (κ : GSem nD τ sig → ℕ) (c : Dev nD)

/-- Its end of transfer `t`: the send cell's place and rights, and the right to pay the partner's receive cell; -/
def sendOwn (t : Fin 24) : sProp 𝕄 :=
  iprop(atPos ER (sendCell c t) 0 ∅ 0 ∗ reached ER (sendCell c t) 0 ∗ dutyTok ER (sendCell c t) 0 0 ∗ dutyTok ER (recvCell (peer t c) t) 0 0)
/-- its own receive cell's place and credit; -/
def recvOwn (t : Fin 24) : sProp 𝕄 := iprop(atPos ER (recvCell c t) 0 ∅ 0 ∗ cred (tallyAt (recvCell c t) () (amt t)))
/-- a local copy's cell, before the copy -/
def copyOwn (i : Fin 3) : sProp 𝕄 := iprop(atPos ER (copyCell c i) 0 ∅ 0 ∗ reached ER (copyCell c i) 0 ∗ dutyTok ER (copyCell c i) 0 0)
/-- and while it runs; -/
def copyRun (i : Fin 3) : sProp 𝕄 := iprop(atPos ER (copyCell c i) 0 ∅ 0 ∗ cred (tallyAt (copyCell c i) () copyAmt))
/-- what the barrier signal along `a` takes: the right to pay it, and the places it hands over. -/
def signalKit (a : Fin 3) : sProp 𝕄 :=
  iprop(dutyTok ER (barCell (pr a c)) 0 a ∗ reached ER (barCell (pr a c)) 0
    ∗ bigSep (along a) fun t => iprop(land (F := F) c (rkey t) ∗ reached ER (recvCell c t) 0))
/-- What a device owes, whatever it may wait for. -/
def owing (O : CellTallies nD τ sig Unit) : sProp 𝕄 := iprop(∃ W, owes (c : Thread nD τ) O W)

/-- Before the signals along the axes `A`, owing `O`. -/
def Ready (A : Finset (Fin 3)) (O : CellTallies nD τ sig Unit) : sProp 𝕄 :=
  iprop(Env I κ ∗ (atPos ER (barCell c) 0 ∅ 0 ∗ cred (tallyAt (barCell c) () 3)) ∗ bigSep A (signalKit c)
    ∗ bigSep Finset.univ (sendOwn (F := F) c) ∗ bigSep Finset.univ (recvOwn (F := F) c) ∗ bigSep Finset.univ (copyOwn (F := F) c)
    ∗ (bigSep Finset.univ fun p : Fin 3 => land (F := F) c (0, p)) ∗ owing c O)

/-- After the barrier, before the local copies. -/
def Met : sProp 𝕄 :=
  iprop(Env I κ ∗ semVal (barCell c) 0 ∗ bigSep Finset.univ (kit (F := F) c)
    ∗ bigSep Finset.univ (fun t : Fin 24 => (atPos ER (sendCell c t) 0 ∅ 0 : sProp 𝕄)) ∗ bigSep Finset.univ (recvOwn (F := F) c)
    ∗ bigSep Finset.univ (copyOwn (F := F) c) ∗ (bigSep Finset.univ fun p : Fin 3 => land (F := F) c (0, p)) ∗ owing c (owed c 0))

/-- The barrier signal along axis `a`. -/
theorem step_signal (a : Fin 3) (A : Finset (Fin 3)) (ha : a ∉ A) (O : CellTallies nD τ sig Unit)
    {α : Type} {Q : α → sProp 𝕄} {k : PUnit → Prog (TpuEff nD τ sig (Elt F) Λ₀ .tc) α} {d : Dev nD} (hd : d = pr a c) :
    Ready I κ c (insert a A) (O + tallyAt (barCell (pr a c)) () 1)
      ⊢ iprop((Ready I κ c A O -∗ WP c (k ⟨⟩) Q) -∗ WP c (.op (.semSignal (d, .tc) barS (1#32 : BitVec 32).toInt) k) Q) := by
  subst hd
  unfold Ready owing
  rw [bigSep_put ha]
  iintro ⟨#He, Hb, ⟨Hs, Hss⟩, HS, HR, HC, Hl, ⟨%W, HO⟩⟩ Hk
  unfold signalKit
  icases Hs with ⟨Ht, Hr, Hp⟩
  iapply (Rounds.wp_signal 𝒱₀ ER (Rd I) (c : Thread nD τ) none (dst := (pr a c : Thread nD τ)) (κ := κ (barCell (pr a c)))
      (d := a) (r := 0) (by rw [duties_bar]; exact Finset.mem_univ _) ((amount_bar I (pr a c) a).trans (by decide)) () O rfl) $$ [HO Ht Hp Hr]
  · isplitr; · iapply (env_inv I κ (bar_mem (pr a c))); iexact He
    isplitl [HO]; · iexact HO
    isplitl [Ht]; · iexact Ht
    isplitl [Hp]
    · rw [payload_bar]; unfold barPay; rw [pr_pr]; iexact Hp
    iexact Hr
  iintro HO
  iapply Hk
  isplitr; · iexact He
  isplitl [Hb]; · iexact Hb
  isplitl [Hss]; · iexact Hss
  isplitl [HS]; · iexact HS
  isplitl [HR]; · iexact HR
  isplitl [HC]; · iexact HC
  isplitl [Hl]; · iexact Hl
  iexists W; iexact HO

/-- A device's own end and the place at its partner's make what a transfer takes. -/
theorem kit_of (t : Fin 24) : iprop((land (F := F) (peer t c) (rkey t) ∗ reached ER (recvCell (peer t c) t) 0) ∗ sendOwn (F := F) c t)
    ⊢ iprop(kit (F := F) c t ∗ atPos ER (sendCell c t) 0 ∅ 0) := by
  unfold sendOwn kit
  iintro ⟨⟨Hl, Hr⟩, Ha, Hs, Ht, Hu⟩
  isplitr [Ha]
  · isplitl [Hl]; · iexact Hl
    isplitl [Hr]; · iexact Hr
    isplitl [Hs]; · iexact Hs
    isplitl [Ht] <;> iassumption
  iexact Ha
theorem kits : iprop((bigSep Finset.univ fun t : Fin 24 => iprop(land (F := F) (peer t c) (rkey t) ∗ reached ER (recvCell (peer t c) t) 0))
      ∗ bigSep Finset.univ (sendOwn (F := F) c))
    ⊢ iprop(bigSep Finset.univ (kit (F := F) c) ∗ bigSep Finset.univ (fun t : Fin 24 => (atPos ER (sendCell c t) 0 ∅ 0 : sProp 𝕄))) :=
  (Entails.of_eq (bigSep_sep' _ _ _).symm).trans ((bigSep_mono fun t _ => kit_of c t).trans (Entails.of_eq (bigSep_sep' _ _ _)))

/-- The barrier wait: the three partners' signals bring the places the transfers fill. -/
theorem step_barrier {α : Type} {Q : α → sProp 𝕄} {k : PUnit → Prog (TpuEff nD τ sig (Elt F) Λ₀ .tc) α} :
    Ready I κ c ∅ (owed c 0) ⊢ iprop((Met I κ c -∗ WP c (k ⟨⟩) Q) -∗ WP c (.op (.semWait barS (3#32 : BitVec 32).toInt) k) Q) := by
  unfold Ready Met owing
  iintro ⟨#He, ⟨Hat, Hc⟩, -, HS, HR, HC, Hl, ⟨%W, HO⟩⟩ Hk
  iapply (Rounds.wp_wait_rest_token 𝒱₀ ER (Rd I) (c : Thread nD τ) none (κ := κ (barCell c))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iapply (env_inv I κ (bar_mem c)); iexact He
    isplitl [Hc]; · iexact Hc
    isplitl [HO]; · iexact HO
    isplitr
    · iapply (mayWait_owed c (.reg barS) 0 (by rw [use_bar]; show 1 < 2 + 0; omega)); iapply (env_lev I κ); iexact He
    iexact Hat
  iintro ⟨HO, Hat, -, Hpay⟩
  ihave Hp := (Entails.of_eq ((rest_bar I c).trans (barPays c))) $$ Hpay
  imod (Rounds.cell_close ER (Rd I) (Set.mem_univ (κ (barCell c))) (fun h => h) (R := 0 + 1) (duties_later I (barCell c))) $$ [Hat] with Hz
  · isplitr; · iapply (env_inv I κ (bar_mem c)); iexact He
    iexact Hat
  ihave HK := (kits (F := F) c) $$ [Hp HS]
  · isplitl [Hp] <;> iassumption
  icases HK with ⟨HK, HA⟩
  iapply Hk
  isplitr; · iexact He
  isplitl [Hz]; · iexact Hz
  isplitl [HK]; · iexact HK
  isplitl [HA]; · iexact HA
  isplitl [HR]; · iexact HR
  isplitl [HC]; · iexact HC
  isplitl [Hl]; · iexact Hl
  iexists _; iexact HO

/-! ## Local copies -/

/-- The rows copied: the block whose first row is at `off`. -/
abbrev rowsView (b : Memref sig .tc .hbm S2048x2048 .f32) (off : Fin 2 → ℕ) (inb : ∀ a, off a + S256x2048.size a ≤ S2048x2048.size a) :
    Memref sig .tc .hbm S256x2048 .f32 := b.slice (Rect.unit (s := S2048x2048) off S256x2048.size inb) (fun _ => rfl)

/-- Starting local copy `i`. -/
theorem copy_start (i : Fin 3) {α : Type} {Q : α → sProp 𝕄} {k : PUnit → Prog (TpuEff nD τ sig (Elt F) Λ₀ .tc) α}
    {src : Memref sig .tc .hbm S256x2048 .f32} {dst : Memref sig .tc .vmem S256x2048 .f32} {q : DmaSem sig} (hq : q = copySem i)
    {hsrc : src.view.WordExact} {hdst : dst.view.WordExact} {hsem : DmaTarget.Typed (nD := nD) (τ := τ) (p := .tc) .hbm (.dma q) (.here dst)}
    (hN : dst.view.amount (.dma (copySem i)) = copyAmt)
    (fs : Buf (Elt F) (src.view.loc (c : Thread nD τ))) (fd : Buf (Elt F) (dst.view.loc (c : Thread nD τ)))
    (hp : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ copyPay I c i) :
    iprop(Env I κ ∗ copyOwn (F := F) c i ∗ (src.view.loc (c : Thread nD τ) ↦[src.view.set]{fullShare} fs)
        ∗ (dst.view.loc (c : Thread nD τ) ↦[dst.view.set]{fullShare} fd))
      ⊢ iprop((copyRun c i -∗ WP c (k ⟨⟩) Q) -∗ WP c (.op (.enqueueDma src (.here dst) (.dma q) hsrc hdst hsem) k) Q) := by
  subst hq
  unfold copyOwn copyRun
  iintro ⟨#He, ⟨Hat, Hr, Ht⟩, Hs, Hd⟩ Hk
  iapply (Rounds.wp_copy_pointsTo 𝒱₀ ER (Rd I) (c : Thread nD τ) none (src := src) (dst := dst) (sem := .dma (copySem i)) (q := fullShare)
      (fs := fs) (fd := fd) (r := 0) (d := 0) (κ := κ (copyCell c i)) (by rw [duties_copy]; exact Finset.mem_singleton_self _) () copyAmt hN
      (amount_copy I c i 0) (by rw [payload_copy]; exact hp)) $$ [Hs Hd Ht Hr]
  · isplitr; · iapply (env_inv I κ (copy_mem c i)); iexact He
    isplitl [Hs]; · iexact Hs
    isplitl [Hd]; · iexact Hd
    isplitl [Ht] <;> iassumption
  iintro Hc
  iapply Hk
  isplitl [Hat] <;> iassumption

/-- Waiting for it. -/
theorem copy_wait (i : Fin 3) (n : ℕ) {α : Type} {Q : α → sProp 𝕄} {k : PUnit → Prog (TpuEff nD τ sig (Elt F) Λ₀ .tc) α}
    {src : Memref sig .tc .hbm S256x2048 .f32} {dst : Memref sig .tc .vmem S256x2048 .f32} {q : DmaSem sig} (hq : q = copySem i)
    {hsrc : src.view.WordExact} {hdst : dst.view.WordExact} (hN : dst.view.dmaCredit = copyAmt) :
    iprop(Env I κ ∗ copyRun (F := F) c i ∗ owing c (owed c n))
      ⊢ iprop(((owing c (owed c n) ∗ semVal (copyCell c i) 0 ∗ copyPay I c i) -∗ WP c (k ⟨⟩) Q)
        -∗ WP c (.op (.waitDma2 q src dst hsrc hdst) k) Q) := by
  subst hq
  unfold copyRun owing
  iintro ⟨#He, ⟨Hat, Hc⟩, ⟨%W, HO⟩⟩ Hk
  iapply (Rounds.wp_wait_rest_token 𝒱₀ ER (Rd I) (c : Thread nD τ) none (κ := κ (copyCell c i))
      (wpE_waitDma2_eq 𝒱₀ (c : Thread nD τ) none Set.univ) (Set.mem_univ _) () (O := owed c n) (W := W) (R := 0) (m := 0) (T := ∅)
      (by rw [Nat.zero_add, expect_copy, hN])) $$ [Hc HO Hat]
  · isplitr; · iapply (env_inv I κ (copy_mem c i)); iexact He
    isplitl [Hc]; · rw [hN]; iexact Hc
    isplitl [HO]; · iexact HO
    isplitr
    · iapply (mayWait_owed c (.dma (copySem i)) n (by rw [use_copy]; show 0 < 2 + n; omega)); iapply (env_lev I κ); iexact He
    iexact Hat
  iintro ⟨HO, Hat, -, Hpay⟩
  ihave Hp := (Entails.of_eq (rest_copy I c i)) $$ Hpay
  imod (Rounds.cell_close ER (Rd I) (Set.mem_univ (κ (copyCell c i))) (fun h => h) (R := 0 + 1) (duties_later I (copyCell c i))) $$ [Hat] with Hz
  · isplitr; · iapply (env_inv I κ (copy_mem c i)); iexact He
    iexact Hat
  iapply Hk
  isplitl [HO]; · iexists _; iexact HO
  isplitl [Hz] <;> iassumption

/-- The state holds the cells' invariants and what the device owes. -/
theorem St_owing (s n a b : ℕ) : St I κ c s n a b ⊢ iprop(Env I κ ∗ owing c (owed c n) ∗ (owing c (owed c n) -∗ St I κ c s n a b)) := by
  unfold St owing
  iintro ⟨#He, H1, H2, H3, H4, H5, H6, H7, H8, HO⟩
  isplitr; · iexact He
  isplitl [HO]; · iexact HO
  iintro HO
  isplitr; · iexact He
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HO

theorem since_zero : since 0 = Finset.univ := by decide +kernel
theorem flying_none : flying 0 0 = ∅ := by decide +kernel
theorem before_none : before 0 = ∅ := by decide +kernel
theorem panels_all : panels 0 = Finset.univ := by decide +kernel

/-- After the barrier, with the partial sums to send written, the exchange begins. -/
theorem St_start : iprop(Env I κ ∗ bigSep Finset.univ (kit (F := F) c)
      ∗ bigSep Finset.univ (fun t : Fin 24 => (atPos ER (sendCell c t) 0 ∅ 0 : sProp 𝕄)) ∗ bigSep Finset.univ (recvOwn (F := F) c)
      ∗ (bigSep Finset.univ fun p : Fin 3 => land (F := F) c (0, p)) ∗ owing c (owed c 0) ∗ ((c : Thread nD τ).loc cc0_scratch3 ↦{fullShare} sent I c))
    ⊢ St I κ c 0 0 0 0 := by
  unfold St owing
  rw [since_zero, flying_none, before_none, panels_all, held_start, send_pieces c (whole I) (sent I c) (sent I (pr 1 c))]
  iintro ⟨#He, HK, HA, HR, Hl, HO, Hs⟩
  isplitr; · iexact He
  isplitl [HK]; · iexact HK
  isplitl [HA]; · iexact HA
  isplitl [HR]; · unfold recvOwn; iexact HR
  isplitr; · rw [bigSep_empty]; iempintro
  isplitr; · rw [bigSep_empty]; iempintro
  isplitr; · rw [bigSep_empty]; iempintro
  isplitl [Hl]; · iexact Hl
  isplitl [Hs]; · unfold pts; iexact Hs
  iexact HO

end Before

end Cert.AllReduce

end
-- ==== Proof.Opening.lean ====
/-
The body's parts 1 to 4: the barrier, the local copies, the partial sums sent and the sum kept.
-/
module

public import proofs.«01_k».proof.Proof.Meet

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Opening

variable (I : Inp F) (κ : GSem nD τ sig → ℕ) (c : Dev nD)

/-! ## The rows copied -/

theorem p_rows_set (b : Fin 8) {off : Fin 2 → ℕ} (h : off = ![256 * b.val, 0]) (inb) : (rowsView pM off inb).view.set = rowSet b := by
  subst h; exact View.set_slice_whole _ _
theorem r_rows_set (b : Fin 8) {off : Fin 2 → ℕ} (h : off = ![256 * b.val, 0]) (inb) : (rowsView rM off inb).view.set = rowSet b := by
  subst h; exact View.set_slice_whole _ _
theorem p_rows_read (b : Fin 8) {off : Fin 2 → ℕ} (h : off = ![256 * b.val, 0]) (inb) (f : Vec F S2048x2048 .f32) :
    (rowsView pM off inb).view.read (Elt F) f = rows b f := by subst h; rfl
theorem r_rows_read (b : Fin 8) {off : Fin 2 → ℕ} (h : off = ![256 * b.val, 0]) (inb) (f : Vec F S2048x2048 .f32) :
    (rowsView rM off inb).view.read (Elt F) f = rows b f := by subst h; rfl

/-- What each copy delivers is its payload. -/
theorem copied_given (off : Fin 2 → ℕ) (h : off = ![256 * (blk (pr 1 c)).val, 0]) (inb) (fd : Vec F S256x2048 .f32) :
    iprop((givenM.view.loc (c : Thread nD τ) ↦[givenM.view.set]{fullShare} (givenM.view.write (Elt F) fd ((rowsView pM off inb).view.read (Elt F) (I.p c)) Finset.univ))
        ∗ ((rowsView pM off inb).view.loc (c : Thread nD τ) ↦[(rowsView pM off inb).view.set]{fullShare} I.p c)) ⊢ copyPay I c 0 := by
  rw [p_rows_set _ h, p_rows_read _ h, show givenM.view.set = Finset.univ from View.set_whole _,
    show givenM.view.write (Elt F) fd _ Finset.univ = _ from View.write_whole_univ cc0_scratch1 fd _]
  exact Entails.refl _
theorem copied_kept (off : Fin 2 → ℕ) (h : off = ![256 * (blk c).val, 0]) (inb) (fd : Vec F S256x2048 .f32) :
    iprop((keptM.view.loc (c : Thread nD τ) ↦[keptM.view.set]{fullShare} (keptM.view.write (Elt F) fd ((rowsView pM off inb).view.read (Elt F) (I.p c)) Finset.univ))
        ∗ ((rowsView pM off inb).view.loc (c : Thread nD τ) ↦[(rowsView pM off inb).view.set]{fullShare} I.p c)) ⊢ copyPay I c 1 := by
  rw [p_rows_set _ h, p_rows_read _ h, show keptM.view.set = Finset.univ from View.set_whole _,
    show keptM.view.write (Elt F) fd _ Finset.univ = _ from View.write_whole_univ cc0_scratch0 fd _]
  exact Entails.refl _
theorem copied_res (off : Fin 2 → ℕ) (h : off = ![256 * (blk c).val, 0]) (inb) (fd : Vec F S256x2048 .f32) :
    iprop((resM.view.loc (c : Thread nD τ) ↦[resM.view.set]{fullShare} (resM.view.write (Elt F) fd ((rowsView rM off inb).view.read (Elt F) (I.r c)) Finset.univ))
        ∗ ((rowsView rM off inb).view.loc (c : Thread nD τ) ↦[(rowsView rM off inb).view.set]{fullShare} I.r c)) ⊢ copyPay I c 2 := by
  rw [r_rows_set _ h, r_rows_read _ h, show resM.view.set = Finset.univ from View.set_whole _,
    show resM.view.write (Elt F) fd _ Finset.univ = _ from View.write_whole_univ cc0_scratch2 fd _]
  exact Entails.refl _

theorem rows_disjoint : rowSet (blk c) ⊆ Finset.univ \ rowSet (blk (pr 1 c)) := by
  intro i hi
  refine Finset.mem_sdiff.mpr ⟨Finset.mem_univ _, fun h => ?_⟩
  obtain ⟨j, hj, e⟩ := (LoadRect.mem_set _).mp hi 0
  obtain ⟨j', hj', e'⟩ := (LoadRect.mem_set _).mp h 0
  replace hj : j < 256 := hj
  replace hj' : j' < 256 := hj'
  replace e : (i 0 : ℕ) = 256 * (blk c).val + 1 * j := e
  replace e' : (i 0 : ℕ) = 256 * (blk (pr 1 c)).val + 1 * j' := e'
  have h1 : blk (pr 1 c) = blk c := Fin.ext (by omega)
  clear hj hj' e e' hi h; revert h1; revert c; decide

/-- The payloads, spelled out. -/
theorem pay_given : copyPay I c 0 = iprop(((c : Thread nD τ).loc cc0_scratch1 ↦{fullShare} rows (blk (pr 1 c)) (I.p c))
    ∗ ((c : Thread nD τ).loc main_v1 ↦[rowSet (blk (pr 1 c))]{fullShare} I.p c)) := rfl
theorem pay_kept : copyPay I c 1 = iprop(((c : Thread nD τ).loc cc0_scratch0 ↦{fullShare} rows (blk c) (I.p c))
    ∗ ((c : Thread nD τ).loc main_v1 ↦[rowSet (blk c)]{fullShare} I.p c)) := rfl
theorem pay_res : copyPay I c 2 = iprop(((c : Thread nD τ).loc cc0_scratch2 ↦{fullShare} rows (blk c) (I.r c))
    ∗ ((c : Thread nD τ).loc main_arg1 ↦[rowSet (blk c)]{fullShare} I.r c)) := rfl

theorem three (Φ : Fin 3 → sProp 𝕄) : bigSep Finset.univ Φ = iprop(Φ 0 ∗ Φ 1 ∗ Φ 2) := by
  rw [show (Finset.univ : Finset (Fin 3)) = insert 0 (insert 1 {2}) by decide, bigSep_put (by decide), bigSep_put (by decide), bigSep_singleton]

/-- The arrays copied from, less the rows copied. -/
def others : sProp 𝕄 :=
  iprop(((c : Thread nD τ).loc main_v1 ↦[(Finset.univ \ rowSet (blk (pr 1 c))) \ rowSet (blk c)]{fullShare} I.p c)
    ∗ ((c : Thread nD τ).loc main_arg1 ↦[Finset.univ \ rowSet (blk c)]{fullShare} I.r c))

/-- The arrays copied from are the rows copied and the rest. -/
theorem p_rows : (((c : Thread nD τ).loc main_v1 ↦{fullShare} I.p c) : sProp 𝕄)
    ⊣⊢ iprop(((c : Thread nD τ).loc main_v1 ↦[rowSet (blk (pr 1 c))]{fullShare} I.p c) ∗ ((c : Thread nD τ).loc main_v1 ↦[rowSet (blk c)]{fullShare} I.p c)
      ∗ ((c : Thread nD τ).loc main_v1 ↦[(Finset.univ \ rowSet (blk (pr 1 c))) \ rowSet (blk c)]{fullShare} I.p c)) :=
  (pointsTo_split_subset (Finset.subset_univ _)).trans
    ⟨sep_mono_right (pointsTo_split_subset (rows_disjoint c)).1, sep_mono_right (pointsTo_split_subset (rows_disjoint c)).2⟩
theorem r_rows : (((c : Thread nD τ).loc main_arg1 ↦{fullShare} I.r c) : sProp 𝕄)
    ⊣⊢ iprop(((c : Thread nD τ).loc main_arg1 ↦[rowSet (blk c)]{fullShare} I.r c)
      ∗ ((c : Thread nD τ).loc main_arg1 ↦[Finset.univ \ rowSet (blk c)]{fullShare} I.r c)) :=
  pointsTo_split_subset (Finset.subset_univ _)

/-- The rectangle that is the whole of a 256-row buffer. -/
abbrev fullRect : Rect S256x2048 := Rect.unit (s := S256x2048) ![0, 0] S256x2048.size inb_S256x2048_S256x2048_0_0

theorem zeros : (![0, 0] : Fin 2 → ℕ) = fun _ => 0 := by funext a; fin_cases a <;> rfl
/-- Reading through it gives the buffer's contents, and writing through it replaces them. -/
theorem read_given (f : Vec F S256x2048 .f32) : (givenM.access fullRect : View sig .tc _ _ _).read (Elt F) f = f :=
  Memref.read_access_unit_zero (Elt F) cc0_scratch1 zeros inb_S256x2048_S256x2048_0_0 f
theorem read_kept (f : Vec F S256x2048 .f32) : (keptM.access fullRect : View sig .tc _ _ _).read (Elt F) f = f :=
  Memref.read_access_unit_zero (Elt F) cc0_scratch0 zeros inb_S256x2048_S256x2048_0_0 f
theorem read_res (f : Vec F S256x2048 .f32) : (resM.access fullRect : View sig .tc _ _ _).read (Elt F) f = f :=
  Memref.read_access_unit_zero (Elt F) cc0_scratch2 zeros inb_S256x2048_S256x2048_0_0 f
theorem write_kept (f w : Vec F S256x2048 .f32) : (keptM.access fullRect : View sig .tc _ _ _).write (Elt F) f w Finset.univ = w :=
  Memref.write_access_unit_zero_univ (Elt F) cc0_scratch0 zeros inb_S256x2048_S256x2048_0_0 f w
theorem write_send (f w : Vec F S256x2048 .bf16) : (sendM.access fullRect : View sig .tc _ _ _).write (Elt F) f w Finset.univ = w :=
  Memref.write_access_unit_zero_univ (Elt F) cc0_scratch3 zeros inb_S256x2048_S256x2048_0_0 f w

/-! ## The parts -/

/-- Part 1: the first two barrier signals. -/
theorem part1 {Q : _ → sProp 𝕄} :
    Ready I κ c (insert 0 (insert 1 (insert 2 ∅))) (owedAll c)
      ⊢ iprop((∀ v2 v5 v8 v12 v17, Ready I κ c (insert 2 ∅) (owed c 0 + tallyAt (barCell (pr 2 c)) () 1)
          -∗ Q ⟨c, v2, v5, v8, v12, v17, SemArray.scalar (sig.barrier 0 rfl), 1#32⟩)
        -∗ WP c (onBufs (k0_part1 (F := F))) Q) := by
  rw [k0_part1_eq_skeleton]; unfold k0_part1_skel owedAll
  simp only [semSignalWord, Prog.lift, Prog.bind_op, Prog.bind_ret, Prog.pure_eq_ret, wp_deviceId]
  iintro HR Hk
  iapply (step_signal I κ c 0 _ (by decide) _ (dev_signal c).1) $$ HR; iintro HR
  iapply (step_signal I κ c 1 _ (by decide) _ (dev_signal c).2.1) $$ HR; iintro HR
  iapply wp_done; iapply Hk; iexact HR

/-- Part 2: the third signal and the barrier's wait; the three copies are started; the first is waited for, and rounded
    to bf16 it is the partial sum to send. -/
theorem part2 {Q : _ → sProp 𝕄} (x y z : Vec F S256x2048 .f32) (w : Vec F S256x2048 .bf16) (v2 v5 v8 v12 v17 v' : BitVec 32) :
    iprop(Ready I κ c (insert 2 ∅) (owed c 0 + tallyAt (barCell (pr 2 c)) () 1)
        ∗ ((c : Thread nD τ).loc main_v1 ↦{fullShare} I.p c) ∗ ((c : Thread nD τ).loc main_arg1 ↦{fullShare} I.r c)
        ∗ ((c : Thread nD τ).loc cc0_scratch0 ↦{fullShare} x) ∗ ((c : Thread nD τ).loc cc0_scratch1 ↦{fullShare} y)
        ∗ ((c : Thread nD τ).loc cc0_scratch2 ↦{fullShare} z) ∗ ((c : Thread nD τ).loc cc0_scratch3 ↦{fullShare} w))
      ⊢ iprop((∀ r, (St I κ c 0 0 0 0 ∗ copyRun c 1 ∗ copyRun c 2 ∗ copyPay I c 0 ∗ others I c ∗ semVal (barCell c) 0 ∗ semVal (copyCell c 0) 0) -∗ Q r)
        -∗ WP c (onBufs (k0_part2 (F := F)) c v2 v5 v8 v12 v17 (SemArray.scalar (sig.barrier 0 rfl)) v') Q) := by
  rw [k0_part2_eq_skeleton]; unfold k0_part2_skel
  simp only [semSignalWord, semWaitWord, Prog.lift, Prog.bind_op, Prog.bind_ret, Prog.pure_eq_ret]
  iintro ⟨HR, Hp, Hr, Hx, Hy, Hz, Hw⟩ Hk
  iapply (step_signal I κ c 2 _ (by decide) _ (dev_signal c).2.2) $$ HR; iintro HR
  iapply (step_barrier I κ c) $$ HR; iintro HR
  unfold Met
  icases HR with ⟨#He, Hbar, HK, HA, HRv, HC, Hl, HO⟩
  ihave HC := (Entails.of_eq (three _)) $$ HC
  icases HC with ⟨HC0, HC1, HC2⟩
  ihave Hp := (p_rows I c).1 $$ Hp
  icases Hp with ⟨Hp0, Hp1, Hpr⟩
  ihave Hr := (r_rows I c).1 $$ Hr
  icases Hr with ⟨Hr2, Hrr⟩
  iapply (copy_start I κ c 0 (src := rowsView pM (k0_off1 c) (k0_off1_inb c)) (dst := givenM) rfl rfl (I.p c) y
    (copied_given I c _ (off_copy c).1 _ y)) $$ [HC0 Hp0 Hy]
  · isplitr; · iexact He
    isplitl [HC0]; · iexact HC0
    isplitl [Hp0]; · rw [p_rows_set _ (off_copy c).1]; iexact Hp0
    rw [show givenM.view.set = Finset.univ from View.set_whole _]; iexact Hy
  iintro HC0
  iapply (copy_start I κ c 1 (src := rowsView pM (k0_off2 c) (k0_off2_inb c)) (dst := keptM) rfl rfl (I.p c) x
    (copied_kept I c _ (off_copy c).2 _ x)) $$ [HC1 Hp1 Hx]
  · isplitr; · iexact He
    isplitl [HC1]; · iexact HC1
    isplitl [Hp1]; · rw [p_rows_set _ (off_copy c).2]; iexact Hp1
    rw [show keptM.view.set = Finset.univ from View.set_whole _]; iexact Hx
  iintro HC1
  iapply (copy_start I κ c 2 (src := rowsView rM (k0_off2 c) (k0_off2_inb c)) (dst := resM) rfl rfl (I.r c) z
    (copied_res I c _ (off_copy c).2 _ z)) $$ [HC2 Hr2 Hz]
  · isplitr; · iexact He
    isplitl [HC2]; · iexact HC2
    isplitl [Hr2]; · rw [r_rows_set _ (off_copy c).2]; iexact Hr2
    rw [show resM.view.set = Finset.univ from View.set_whole _]; iexact Hz
  iintro HC2
  iapply (copy_wait I κ c 0 0 rfl rfl) $$ [HC0 HO]
  · isplitr; · iexact He
    isplitl [HC0] <;> iassumption
  iintro ⟨HO, Hc0, Hpay⟩
  ihave Hpay := (Entails.of_eq (pay_given I c)) $$ Hpay
  icases Hpay with ⟨Hg, Hsrc⟩
  iapply (wp_load_rect 𝒱₀ (c : Thread nD τ) none Set.univ (m := givenM) (r := fullRect) (Finset.subset_univ _)) $$ Hg; iintro Hg
  iapply (wp_load_rect 𝒱₀ (c : Thread nD τ) none Set.univ (m := sendM) (r := fullRect) (Finset.subset_univ _)) $$ Hw; iintro Hw
  iapply (wp_store 𝒱₀ (c : Thread nD τ) none Set.univ (m := sendM) (r := fullRect) (Mk := Finset.univ) (Finset.subset_univ _)) $$ Hw; iintro Hw
  ihave Hw := (Entails.of_eq (congrArg (fun f => (((c : Thread nD τ).loc cc0_scratch3 ↦{fullShare} f) : sProp 𝕄))
    ((write_send w _).trans (congrArg k0_pay2 (read_given (rows (blk (pr 1 c)) (I.p c))))))) $$ Hw
  iapply wp_done; iapply Hk
  isplitl [HK HA HRv Hl HO Hw]
  · iapply (St_start I κ c)
    isplitr; · iexact He
    isplitl [HK]; · iexact HK
    isplitl [HA]; · iexact HA
    isplitl [HRv]; · iexact HRv
    isplitl [Hl]; · iexact Hl
    isplitl [HO]; · iexact HO
    iexact Hw
  isplitl [HC1]; · iexact HC1
  isplitl [HC2]; · iexact HC2
  isplitl [Hg Hsrc]; · rw [pay_given]; isplitl [Hg] <;> iassumption
  isplitl [Hpr Hrr]
  · unfold others; isplitl [Hpr] <;> iassumption
  isplitl [Hbar] <;> iassumption

/-- Part 3: the first two partial sums are sent. -/
theorem part3 {Q : _ → sProp 𝕄} (v2 v5 v8 v60 : BitVec 32) :
    St I κ c 0 0 0 0 ⊢ iprop((∀ r, St I κ c 0 2 0 0 -∗ Q r) -∗ WP c (onBufs (k0_part3 (F := F)) c v2 v5 v8 v60) Q) := by
  rw [k0_part3_eq_skeleton]; unfold k0_part3_skel
  simp only [Prog.lift, Prog.bind_op, Prog.bind_ret, Prog.pure_eq_ret]
  iintro HS Hk
  iapply (sum_send I κ c 0 0 0 0 0 (by decide +kernel) (devOf_eq c 0) rfl rfl) $$ HS; iintro HS
  iapply (sum_send I κ c 1 0 1 0 0 (by decide +kernel) (devOf_eq c 1) rfl rfl) $$ HS; iintro HS
  iapply wp_done; iapply Hk; iexact HS

/-- Part 4: the third is sent; the other two copies are waited for and added; the first partial sum's send is seen. -/
theorem part4 {Q : _ → sProp 𝕄} (v2 v8 v60 : BitVec 32) :
    iprop(St I κ c 0 2 0 0 ∗ copyRun c 1 ∗ copyRun c 2)
      ⊢ iprop((∀ r, (St I κ c 0 3 1 0 ∗ ((c : Thread nD τ).loc cc0_scratch0 ↦{fullShare} kept I c)
          ∗ ((c : Thread nD τ).loc main_v1 ↦[rowSet (blk c)]{fullShare} I.p c) ∗ copyPay I c 2 ∗ semVal (copyCell c 1) 0 ∗ semVal (copyCell c 2) 0) -∗ Q r)
        -∗ WP c (onBufs (k0_part4 (F := F)) c v2 v8 v60) Q) := by
  rw [k0_part4_eq_skeleton]; unfold k0_part4_skel
  simp only [Prog.lift, Prog.bind_op, Prog.bind_ret, Prog.pure_eq_ret]
  iintro ⟨HS, HC1, HC2⟩ Hk
  iapply (sum_send I κ c 2 0 2 0 0 (by decide +kernel) (devOf_eq c 2) rfl rfl) $$ HS; iintro HS
  ihave HS := (St_owing I κ c 0 3 0 0) $$ HS
  icases HS with ⟨#He, HO, HS⟩
  iapply (copy_wait I κ c 1 3 rfl rfl) $$ [HC1 HO]
  · isplitr; · iexact He
    isplitl [HC1] <;> iassumption
  iintro ⟨HO, Hc1, Hpay1⟩
  iapply (copy_wait I κ c 2 3 rfl rfl) $$ [HC2 HO]
  · isplitr; · iexact He
    isplitl [HC2] <;> iassumption
  iintro ⟨HO, Hc2, Hpay2⟩
  ispecialize HS $$ HO
  ihave Hpay1 := (Entails.of_eq (pay_kept I c)) $$ Hpay1
  icases Hpay1 with ⟨Hx, Hs1⟩
  ihave Hpay2 := (Entails.of_eq (pay_res I c)) $$ Hpay2
  icases Hpay2 with ⟨Hz, Hs2⟩
  iapply (wp_load_rect 𝒱₀ (c : Thread nD τ) none Set.univ (m := keptM) (r := fullRect) (Finset.subset_univ _)) $$ Hx; iintro Hx
  iapply (wp_load_rect 𝒱₀ (c : Thread nD τ) none Set.univ (m := resM) (r := fullRect) (Finset.subset_univ _)) $$ Hz; iintro Hz
  iapply (wp_load_rect 𝒱₀ (c : Thread nD τ) none Set.univ (m := keptM) (r := fullRect) (Finset.subset_univ _)) $$ Hx; iintro Hx
  iapply (wp_store 𝒱₀ (c : Thread nD τ) none Set.univ (m := keptM) (r := fullRect) (Mk := Finset.univ) (Finset.subset_univ _)) $$ Hx; iintro Hx
  ihave Hx := (Entails.of_eq (congrArg (fun f => (((c : Thread nD τ).loc cc0_scratch0 ↦{fullShare} f) : sProp 𝕄))
    ((write_kept (rows (blk c) (I.p c)) _).trans (congrArg₂ k0_pay3 (read_kept (rows (blk c) (I.p c))) (read_res (rows (blk c) (I.r c))))))) $$ Hx
  iapply (sum_sent I κ c 0 0 3 0 0 (by decide +kernel) rfl) $$ HS; iintro HS
  iapply wp_done; iapply Hk
  isplitl [HS]; · iexact HS
  isplitl [Hx]; · iexact Hx
  isplitl [Hs1]; · iexact Hs1
  isplitl [Hz Hs2]; · rw [pay_res]; isplitl [Hz] <;> iassumption
  isplitl [Hc1] <;> iassumption

end Opening

end Cert.AllReduce

end
-- ==== Proof.PartsB.lean ====
/-
The body's parts 15 to 25: the second half of the gathering, and its last waits but two.
-/
module

public import proofs.«01_k».proof.Proof.Store

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (I : Inp F) (κ : GSem nD τ sig → ℕ) (c : Dev nD)

/-- Part 15: starts transfer 15, sees transfer 8 sent, sees transfer 8 arrive. -/
theorem part15 {Q : _ → sProp 𝕄} (v2 v8 v269 v284 v388 c256_i32_338 : BitVec 32) :
    St I κ c 3 15 8 8 ⊢ iprop((∀ r, St I κ c 3 16 9 9 -∗ Q r) -∗ WP c (onBufs (k0_part15 (F := F)) c v2 v8 v269 v284 v388 c256_i32_338) Q) := by
  rw [k0_part15_eq_skeleton]; unfold k0_part15_skel
  simp only [Prog.lift, Prog.bind_op, Prog.bind_ret, Prog.pure_eq_ret]
  iintro HS Hk
  iapply (gather_send I κ c 15 3 15 8 8 (by decide +kernel) (devOf_eq c 15) rfl rfl) $$ HS; iintro HS
  iapply (gather_sent I κ c 8 3 16 8 8 (by decide +kernel) rfl) $$ HS; iintro HS
  iapply (gather_arrived I κ c 8 3 16 9 8 (by decide +kernel) rfl) $$ HS; iintro HS
  iapply wp_done; iapply Hk; iexact HS

/-- Part 16: sees transfer 9 sent, sees transfer 9 arrive, starts transfer 16. -/
theorem part16 {Q : _ → sProp 𝕄} (v2 v5 v8 v12 v186 v284 : BitVec 32) :
    St I κ c 3 16 9 9 ⊢ iprop((∀ r, St I κ c 3 17 10 10 -∗ Q r) -∗ WP c (onBufs (k0_part16 (F := F)) c v2 v5 v8 v12 v186 v284) Q) := by
  rw [k0_part16_eq_skeleton]; unfold k0_part16_skel
  simp only [Prog.lift, Prog.bind_op, Prog.bind_ret, Prog.pure_eq_ret]
  iintro HS Hk
  iapply (gather_sent I κ c 9 3 16 9 9 (by decide +kernel) rfl) $$ HS; iintro HS
  iapply (gather_arrived I κ c 9 3 16 10 9 (by decide +kernel) rfl) $$ HS; iintro HS
  iapply (gather_send I κ c 16 3 16 10 10 (by decide +kernel) (devOf_eq c 16) rfl rfl) $$ HS; iintro HS
  iapply wp_done; iapply Hk; iexact HS

/-- Part 17: starts transfer 17, starts transfer 18. -/
theorem part17 {Q : _ → sProp 𝕄} (v2 v5 v313 v314 v473 v493 : BitVec 32) :
    St I κ c 3 17 10 10 ⊢ iprop((∀ r, St I κ c 3 19 10 10 -∗ Q r) -∗ WP c (onBufs (k0_part17 (F := F)) c v2 v5 v313 v314 v473 v493) Q) := by
  rw [k0_part17_eq_skeleton]; unfold k0_part17_skel
  simp only [Prog.lift, Prog.bind_op, Prog.bind_ret, Prog.pure_eq_ret]
  iintro HS Hk
  iapply (gather_send I κ c 17 3 17 10 10 (by decide +kernel) (devOf_eq c 17) rfl rfl) $$ HS; iintro HS
  iapply (gather_send I κ c 18 3 18 10 10 (by decide +kernel) (devOf_eq c 18) rfl rfl) $$ HS; iintro HS
  iapply wp_done; iapply Hk; iexact HS

/-- Part 18: starts transfer 19, sees transfer 10 sent, sees transfer 10 arrive, sees transfer 11 sent, sees transfer 11 arrive. -/
theorem part18 {Q : _ → sProp 𝕄} (v2 v5 v329 : BitVec 32) :
    St I κ c 3 19 10 10 ⊢ iprop((∀ r, St I κ c 3 20 12 12 -∗ Q r) -∗ WP c (onBufs (k0_part18 (F := F)) c v2 v5 v329) Q) := by
  rw [k0_part18_eq_skeleton]; unfold k0_part18_skel
  simp only [Prog.lift, Prog.bind_op, Prog.bind_ret, Prog.pure_eq_ret]
  iintro HS Hk
  iapply (gather_send I κ c 19 3 19 10 10 (by decide +kernel) (devOf_eq c 19) rfl rfl) $$ HS; iintro HS
  iapply (gather_sent I κ c 10 3 20 10 10 (by decide +kernel) rfl) $$ HS; iintro HS
  iapply (gather_arrived I κ c 10 3 20 11 10 (by decide +kernel) rfl) $$ HS; iintro HS
  iapply (gather_sent I κ c 11 3 20 11 11 (by decide +kernel) rfl) $$ HS; iintro HS
  iapply (gather_arrived I κ c 11 3 20 12 11 (by decide +kernel) rfl) $$ HS; iintro HS
  iapply wp_done; iapply Hk; iexact HS

/-- Part 19: starts transfer 20, starts transfer 21. -/
theorem part19 {Q : _ → sProp 𝕄} (v2 v5 v8 v12 v224 v358 : BitVec 32) :
    St I κ c 3 20 12 12 ⊢ iprop((∀ r, St I κ c 3 22 12 12 -∗ Q r) -∗ WP c (onBufs (k0_part19 (F := F)) c v2 v5 v8 v12 v224 v358) Q) := by
  rw [k0_part19_eq_skeleton]; unfold k0_part19_skel
  simp only [Prog.lift, Prog.bind_op, Prog.bind_ret, Prog.pure_eq_ret]
  iintro HS Hk
  iapply (gather_send I κ c 20 3 20 12 12 (by decide +kernel) (devOf_eq c 20) rfl rfl) $$ HS; iintro HS
  iapply (gather_send I κ c 21 3 21 12 12 (by decide +kernel) (devOf_eq c 21) rfl rfl) $$ HS; iintro HS
  iapply wp_done; iapply Hk; iexact HS

/-- Part 20: starts transfer 22, starts transfer 23, sees transfer 12 sent. -/
theorem part20 {Q : _ → sProp 𝕄} (v2 v5 v8 v359 v388 v558 v589 : BitVec 32) :
    St I κ c 3 22 12 12 ⊢ iprop((∀ r, St I κ c 3 24 13 12 -∗ Q r) -∗ WP c (onBufs (k0_part20 (F := F)) c v2 v5 v8 v359 v388 v558 v589) Q) := by
  rw [k0_part20_eq_skeleton]; unfold k0_part20_skel
  simp only [Prog.lift, Prog.bind_op, Prog.bind_ret, Prog.pure_eq_ret]
  iintro HS Hk
  iapply (gather_send I κ c 22 3 22 12 12 (by decide +kernel) (devOf_eq c 22) rfl rfl) $$ HS; iintro HS
  iapply (gather_send I κ c 23 3 23 12 12 (by decide +kernel) (devOf_eq c 23) rfl rfl) $$ HS; iintro HS
  iapply (gather_sent I κ c 12 3 24 12 12 (by decide +kernel) rfl) $$ HS; iintro HS
  iapply wp_done; iapply Hk; iexact HS

/-- Part 21: sees transfer 12 arrive, sees transfer 13 sent, sees transfer 13 arrive, sees transfer 14 sent. -/
theorem part21 {Q : _ → sProp 𝕄} (v2 v8 v388 v620 v621 : BitVec 32) :
    St I κ c 3 24 13 12 ⊢ iprop((∀ r, St I κ c 3 24 15 14 -∗ Q r) -∗ WP c (onBufs (k0_part21 (F := F)) c v2 v8 v388 v620 v621) Q) := by
  rw [k0_part21_eq_skeleton]; unfold k0_part21_skel
  simp only [Prog.lift, Prog.bind_op, Prog.bind_ret, Prog.pure_eq_ret]
  iintro HS Hk
  iapply (gather_arrived I κ c 12 3 24 13 12 (by decide +kernel) rfl) $$ HS; iintro HS
  iapply (gather_sent I κ c 13 3 24 13 13 (by decide +kernel) rfl) $$ HS; iintro HS
  iapply (gather_arrived I κ c 13 3 24 14 13 (by decide +kernel) rfl) $$ HS; iintro HS
  iapply (gather_sent I κ c 14 3 24 14 14 (by decide +kernel) rfl) $$ HS; iintro HS
  iapply wp_done; iapply Hk; iexact HS

/-- Part 22: sees transfer 14 arrive, sees transfer 15 sent, sees transfer 15 arrive, sees transfer 16 sent. -/
theorem part22 {Q : _ → sProp 𝕄} (v2 v5 v8 v388 v473 v650 c1_i32_508 : BitVec 32) :
    St I κ c 3 24 15 14 ⊢ iprop((∀ r, St I κ c 3 24 17 16 -∗ Q r) -∗ WP c (onBufs (k0_part22 (F := F)) c v2 v5 v8 v388 v473 v650 c1_i32_508) Q) := by
  rw [k0_part22_eq_skeleton]; unfold k0_part22_skel
  simp only [Prog.lift, Prog.bind_op, Prog.bind_ret, Prog.pure_eq_ret]
  iintro HS Hk
  iapply (gather_arrived I κ c 14 3 24 15 14 (by decide +kernel) rfl) $$ HS; iintro HS
  iapply (gather_sent I κ c 15 3 24 15 15 (by decide +kernel) rfl) $$ HS; iintro HS
  iapply (gather_arrived I κ c 15 3 24 16 15 (by decide +kernel) rfl) $$ HS; iintro HS
  iapply (gather_sent I κ c 16 3 24 16 16 (by decide +kernel) rfl) $$ HS; iintro HS
  iapply wp_done; iapply Hk; iexact HS

/-- Part 23: sees transfer 16 arrive, sees transfer 17 sent, sees transfer 17 arrive, sees transfer 18 sent. -/
theorem part23 {Q : _ → sProp 𝕄} (v2 v5 v473 : BitVec 32) :
    St I κ c 3 24 17 16 ⊢ iprop((∀ r, St I κ c 3 24 19 18 -∗ Q r) -∗ WP c (onBufs (k0_part23 (F := F)) c v2 v5 v473) Q) := by
  rw [k0_part23_eq_skeleton]; unfold k0_part23_skel
  simp only [Prog.lift, Prog.bind_op, Prog.bind_ret, Prog.pure_eq_ret]
  iintro HS Hk
  iapply (gather_arrived I κ c 16 3 24 17 16 (by decide +kernel) rfl) $$ HS; iintro HS
  iapply (gather_sent I κ c 17 3 24 17 17 (by decide +kernel) rfl) $$ HS; iintro HS
  iapply (gather_arrived I κ c 17 3 24 18 17 (by decide +kernel) rfl) $$ HS; iintro HS
  iapply (gather_sent I κ c 18 3 24 18 18 (by decide +kernel) rfl) $$ HS; iintro HS
  iapply wp_done; iapply Hk; iexact HS

/-- Part 24: sees transfer 18 arrive, sees transfer 19 sent, sees transfer 19 arrive, sees transfer 20 sent. -/
theorem part24 {Q : _ → sProp 𝕄} (v2 v5 v8 v473 v558 : BitVec 32) :
    St I κ c 3 24 19 18 ⊢ iprop((∀ r, St I κ c 3 24 21 20 -∗ Q r) -∗ WP c (onBufs (k0_part24 (F := F)) c v2 v5 v8 v473 v558) Q) := by
  rw [k0_part24_eq_skeleton]; unfold k0_part24_skel
  simp only [Prog.lift, Prog.bind_op, Prog.bind_ret, Prog.pure_eq_ret]
  iintro HS Hk
  iapply (gather_arrived I κ c 18 3 24 19 18 (by decide +kernel) rfl) $$ HS; iintro HS
  iapply (gather_sent I κ c 19 3 24 19 19 (by decide +kernel) rfl) $$ HS; iintro HS
  iapply (gather_arrived I κ c 19 3 24 20 19 (by decide +kernel) rfl) $$ HS; iintro HS
  iapply (gather_sent I κ c 20 3 24 20 20 (by decide +kernel) rfl) $$ HS; iintro HS
  iapply wp_done; iapply Hk; iexact HS

/-- Part 25: sees transfer 20 arrive, sees transfer 21 sent, sees transfer 21 arrive, sees transfer 22 sent. -/
theorem part25 {Q : _ → sProp 𝕄} (v5 v8 v558 : BitVec 32) :
    St I κ c 3 24 21 20 ⊢ iprop((∀ r, St I κ c 3 24 23 22 -∗ Q r) -∗ WP c (onBufs (k0_part25 (F := F)) c v5 v8 v558) Q) := by
  rw [k0_part25_eq_skeleton]; unfold k0_part25_skel
  simp only [Prog.lift, Prog.bind_op, Prog.bind_ret, Prog.pure_eq_ret]
  iintro HS Hk
  iapply (gather_arrived I κ c 20 3 24 21 20 (by decide +kernel) rfl) $$ HS; iintro HS
  iapply (gather_sent I κ c 21 3 24 21 21 (by decide +kernel) rfl) $$ HS; iintro HS
  iapply (gather_arrived I κ c 21 3 24 22 21 (by decide +kernel) rfl) $$ HS; iintro HS
  iapply (gather_sent I κ c 22 3 24 22 22 (by decide +kernel) rfl) $$ HS; iintro HS
  iapply wp_done; iapply Hk; iexact HS
end Parts

end Cert.AllReduce

end
-- ==== Proof.Closing.lean ====
/-
The end of the exchange and the normalisation: the last waits give back the whole result, un-normalised; then each block
of rows is loaded, normalised, scaled and stored.
-/
module

public import proofs.«01_k».proof.Proof.Opening
public import proofs.«01_k».proof.Proof.PartsB

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The end of the exchange -/

section Exchange

variable (I : Inp F) (κ : GSem nD τ sig → ℕ) (c : Dev nD)

/-- What is left of the exchange: the transfers' semaphores at zero, the buffers sent from and received into, and nothing owed. -/
def Over : sProp 𝕄 :=
  iprop((bigSep Finset.univ fun t : Fin 24 => (semVal (sendCell c t) 0 : sProp 𝕄)) ∗ (bigSep Finset.univ fun t : Fin 24 => (semVal (recvCell c t) 0 : sProp 𝕄))
    ∗ ((c : Thread nD τ).loc cc0_scratch3 ↦{fullShare} sent I c) ∗ ((c : Thread nD τ).loc cc0_scratch4 ↦{fullShare} sent I (pr 1 c)) ∗ owing (F := F) c 0)

theorem before_all : before 24 = Finset.univ := by decide +kernel

/-- After the last wait the result buffer holds every block's sum. -/
theorem St_end : St I κ c 3 24 24 24 ⊢ iprop(((c : Thread nD τ).loc cc0_stg1_0 ↦{fullShare} whole I) ∗ Over I c) := by
  unfold St Over owing
  rw [before_all, held_end, owed_end]
  iintro ⟨-, -, -, -, -, HzS, HzR, -, Hp, HO⟩
  ihave Hp := (pieces_end c I) $$ Hp
  icases Hp with ⟨Ho, Hs, Hr⟩
  isplitl [Ho]; · iexact Ho
  isplitl [HzS]; · iexact HzS
  isplitl [HzR]; · iexact HzR
  isplitl [Hs]; · iexact Hs
  isplitl [Hr] <;> iassumption

/-! ## Normalising a block -/

/-- The first `n` blocks of the result are normalised; the scale is at hand. -/
def Norm (n : ℕ) : sProp 𝕄 :=
  iprop(((c : Thread nD τ).loc cc0_stg1_0 ↦{fullShare} upTo I c n) ∗ ((c : Thread nD τ).loc cc0_stg0_0 ↦{fullShare} I.g c))

/-- All of the scale's one row. -/
abbrev scaleRect : Rect S1x2048 := Rect.unit (s := S1x2048) ![0, 0] S1x2048.size inb_S1x2048_S1x2048_0_0

theorem read_scale (f : Vec F S1x2048 .f32) : (gM.access scaleRect : View sig .tc _ _ _).read (Elt F) f = f :=
  Memref.read_access_unit_zero (Elt F) cc0_stg0_0 zeros inb_S1x2048_S1x2048_0_0 f

/-- Storing block `n`'s normalised rows normalises one block more. -/
theorem upTo_succ (n : Fin 8) :
    (oM.access (blockRect n) : View sig .tc _ _ _).write (Elt F) (upTo I c n.val) (k0_pay7 (rows n (whole I)) (I.g c)) Finset.univ = upTo I c (n.val + 1) := by
  funext i
  by_cases hi : blockOf i = n
  · have e : (blockRect n).emb (local' i) = i := by rw [← hi]; exact inBlock_local i
    have h := write_whole_slice (b := cc0_stg1_0) (blockRect n) (upTo I c n.val) (k0_pay7 (rows n (whole I)) (I.g c)) (local' i)
    rw [e] at h
    refine h.trans ?_
    have hlt : (i 0).val < 256 * (n.val + 1) := by
      have hv : (i 0).val / 256 = n.val := congrArg Fin.val hi
      omega
    rw [show upTo I c (n.val + 1) i = norm I c i from if_pos hlt]
    show _ = k0_pay7 (rows (blockOf i) (whole I)) (I.g c) (local' i)
    rw [hi]
  · have hv : (i 0).val / 256 ≠ n.val := fun h => hi (Fin.ext h)
    have h : i ∉ (oM.access (blockRect n) : View sig .tc _ _ _).setOn Finset.univ := by
      rw [View.setOn_univ, View.set_slice_whole]
      intro h
      obtain ⟨j, hj, e⟩ := (LoadRect.mem_set _).mp h 0
      replace hj : j < 256 := hj
      replace e : (i 0 : ℕ) = 256 * n.val + 1 * j := e
      omega
    rw [View.write_of_not_mem _ _ _ h]
    unfold upTo
    by_cases hl : (i 0).val < 256 * n.val
    · rw [if_pos hl, if_pos (by omega)]
    · rw [if_neg hl, if_neg (by omega)]

/-- The load of block `n`'s rows. -/
theorem norm_load (n : Fin 8) (m : ℕ) (hm : m = n.val) {α : Type} {Q : α → sProp 𝕄}
    {k : (S256x2048.Idx → Elt F .bf16) → Prog (TpuEff nD τ sig (Elt F) Λ₀ .tc) α} {h₁} :
    Norm I c m ⊢ iprop((Norm I c m -∗ WP c (k (rows n (whole I))) Q) -∗ WP c (.op (.load oM (blockRect n).toLoadRect h₁) k) Q) := by
  subst hm
  unfold Norm
  iintro ⟨Ho, Hg⟩ Hk
  iapply (wp_load_rect 𝒱₀ (c : Thread nD τ) none Set.univ (m := oM) (r := blockRect n) (Finset.subset_univ _)) $$ Ho; iintro Ho
  rw [show ((oM : Memref sig .tc .vmem S2048x2048 .bf16).access (blockRect n)).read (Elt F) (upTo I c n.val) = rows n (whole I) from rows_upTo I c n]
  iapply Hk
  isplitl [Ho] <;> iassumption

/-- The scale's load, the load whose result is not used, and the store of the block's normalised rows. -/
theorem norm_store (n : Fin 8) (l m : ℕ) (hl : l = n.val) (hm : m = n.val + 1) {α : Type} {Q : α → sProp 𝕄}
    {k : PUnit → Prog (TpuEff nD τ sig (Elt F) Λ₀ .tc) α}
    {f : (S1x2048.Idx → Elt F .f32) → (S256x2048.Idx → Elt F .bf16)} (hf : ∀ g, f g = k0_pay7 (rows n (whole I)) g) {h₁ h₂ h₃ h₄} :
    Norm I c l ⊢ iprop((Norm I c m -∗ WP c (k ⟨⟩) Q)
      -∗ WP c (.op (.load gM scaleRect.toLoadRect h₁) fun (g : S1x2048.Idx → Elt F .f32) => .op (.load oM (blockRect n).toLoadRect h₂) fun _ =>
          .op (.store oM (blockRect n) (f g) Finset.univ h₃ h₄) k) Q) := by
  subst hl hm
  unfold Norm
  iintro ⟨Ho, Hg⟩ Hk
  iapply (wp_load_rect 𝒱₀ (c : Thread nD τ) none Set.univ (m := gM) (r := scaleRect) (Finset.subset_univ _)) $$ Hg; iintro Hg
  iapply (wp_load_rect 𝒱₀ (c : Thread nD τ) none Set.univ (m := oM) (r := blockRect n) (Finset.subset_univ _)) $$ Ho; iintro Ho
  iapply (wp_store 𝒱₀ (c : Thread nD τ) none Set.univ (m := oM) (r := blockRect n) (Mk := Finset.univ) (Finset.subset_univ _)) $$ Ho; iintro Ho
  ihave Ho := (Entails.of_eq (congrArg (fun o => (((c : Thread nD τ).loc cc0_stg1_0 ↦{fullShare} o) : sProp 𝕄))
    ((congrArg (fun w => (oM.access (blockRect n) : View sig .tc _ _ _).write (Elt F) (upTo I c n.val) w Finset.univ)
      ((hf _).trans (congrArg (k0_pay7 (rows n (whole I))) (read_scale (I.g c))))).trans (upTo_succ I c n)))) $$ Ho
  iapply Hk
  isplitl [Ho] <;> iassumption

end Exchange

/-! ## The parts -/

section Parts

variable (I : Inp F) (κ : GSem nD τ sig → ℕ) (c : Dev nD)

/-- Part 26: the last waits; then block 0. -/
theorem part26 {Q : _ → sProp 𝕄} (v5 v8 v558 : BitVec 32) :
    iprop(St I κ c 3 24 23 22 ∗ ((c : Thread nD τ).loc cc0_stg0_0 ↦{fullShare} I.g c))
      ⊢ iprop((∀ r, (Norm I c 1 ∗ Over I c) -∗ Q r) -∗ WP c (onBufs (k0_part26 (F := F)) c v5 v8 v558) Q) := by
  rw [k0_part26_eq_skeleton]; unfold k0_part26_skel
  simp only [Prog.lift, Prog.bind_op, Prog.bind_ret, Prog.pure_eq_ret]
  iintro ⟨HS, Hg⟩ Hk
  iapply (gather_arrived I κ c 22 3 24 23 22 (by decide +kernel) rfl) $$ HS; iintro HS
  iapply (gather_sent I κ c 23 3 24 23 23 (by decide +kernel) rfl) $$ HS; iintro HS
  iapply (gather_arrived I κ c 23 3 24 24 23 (by decide +kernel) rfl) $$ HS; iintro HS
  ihave HS := (St_end I κ c) $$ HS
  icases HS with ⟨Ho, HE⟩
  ihave HN := (show iprop(((c : Thread nD τ).loc cc0_stg1_0 ↦{fullShare} whole I) ∗ ((c : Thread nD τ).loc cc0_stg0_0 ↦{fullShare} I.g c)) ⊢ Norm I c 0 by
    unfold Norm; rw [upTo_zero]) $$ [Ho Hg]
  · isplitl [Ho] <;> iassumption
  iapply (norm_load I c 0 0 rfl) $$ HN; iintro HN
  iapply (norm_store I c 0 0 1 rfl rfl (fun _ => rfl)) $$ HN; iintro HN
  iapply wp_done; iapply Hk
  isplitl [HN] <;> iassumption

/-- Part 27: blocks 1 and 2; block 3's rows loaded. -/
theorem part27 {Q : _ → sProp 𝕄} :
    Norm I c 1 ⊢ iprop((Norm I c 3 -∗ Q (rows 3 (whole I))) -∗ WP c (onBufs (k0_part27 (F := F))) Q) := by
  rw [k0_part27_eq_skeleton]; unfold k0_part27_skel
  simp only [Prog.lift, Prog.bind_op, Prog.bind_ret, Prog.pure_eq_ret]
  iintro HN Hk
  iapply (norm_load I c 1 1 rfl) $$ HN; iintro HN
  iapply (norm_store I c 1 1 2 rfl rfl (fun _ => congrFun (congrFun pay8_eq _) _)) $$ HN; iintro HN
  iapply (norm_load I c 2 2 rfl) $$ HN; iintro HN
  iapply (norm_store I c 2 2 3 rfl rfl (fun _ => congrFun (congrFun pay9_eq _) _)) $$ HN; iintro HN
  iapply (norm_load I c 3 3 rfl) $$ HN; iintro HN
  iapply wp_done; iapply Hk; iexact HN

/-- Part 28: blocks 3 and 4; block 5's rows loaded. -/
theorem part28 {Q : _ → sProp 𝕄} :
    Norm I c 3 ⊢ iprop((Norm I c 5 -∗ Q (k0_pay12 (rows 5 (whole I)))) -∗ WP c (onBufs (k0_part28 (F := F)) (rows 3 (whole I))) Q) := by
  rw [k0_part28_eq_skeleton]; unfold k0_part28_skel
  simp only [Prog.lift, Prog.bind_op, Prog.bind_ret, Prog.pure_eq_ret]
  iintro HN Hk
  iapply (norm_store I c 3 3 4 rfl rfl (fun _ => congrFun (congrFun pay10_eq _) _)) $$ HN; iintro HN
  iapply (norm_load I c 4 4 rfl) $$ HN; iintro HN
  iapply (norm_store I c 4 4 5 rfl rfl (fun _ => congrFun (congrFun pay11_eq _) _)) $$ HN; iintro HN
  iapply (norm_load I c 5 5 rfl) $$ HN; iintro HN
  iapply wp_done; iapply Hk; iexact HN

/-- Part 29: blocks 5 and 6; block 7's rows loaded. -/
theorem part29 {Q : _ → sProp 𝕄} :
    Norm I c 5 ⊢ iprop((Norm I c 7 -∗ Q ⟨k0_pay15 (rows 7 (whole I)), k0_pay16 (rows 7 (whole I))⟩)
      -∗ WP c (onBufs (k0_part29 (F := F)) (k0_pay12 (rows 5 (whole I)))) Q) := by
  rw [k0_part29_eq_skeleton]; unfold k0_part29_skel
  simp only [Prog.lift, Prog.bind_op, Prog.bind_ret, Prog.pure_eq_ret]
  iintro HN Hk
  iapply (norm_store I c 5 5 6 rfl rfl (fun g => pay13_eq _ g)) $$ HN; iintro HN
  iapply (norm_load I c 6 6 rfl) $$ HN; iintro HN
  iapply (norm_store I c 6 6 7 rfl rfl (fun _ => congrFun (congrFun pay14_eq _) _)) $$ HN; iintro HN
  iapply (norm_load I c 7 7 rfl) $$ HN; iintro HN
  iapply wp_done; iapply Hk; iexact HN

end Parts

end Cert.AllReduce

end
-- ==== Proof.PartsA.lean ====
/-
The body's parts 5 to 14: the arrival of the partial sums, the three stores, and the first half of the gathering. Each
part is a run of the steps of `Steps`, in the printed order; the words it passes on are of no account.
-/
module

public import proofs.«01_k».proof.Proof.Store

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (I : Inp F) (κ : GSem nD τ sig → ℕ) (c : Dev nD)

/-- The device's own rows, summed with the residual. -/
abbrev keptAt : sProp 𝕄 := (c : Thread nD τ).loc cc0_scratch0 ↦{fullShare} kept I c

/-- Part 5: sees transfer 0 arrive, stores panel 0, starts transfer 3. -/
theorem part5 {Q : _ → sProp 𝕄} (v2 v5 v8 v12 : BitVec 32) :
    iprop(St I κ c 0 3 1 0 ∗ keptAt I c) ⊢ iprop((∀ r, (St I κ c 1 4 1 1 ∗ keptAt I c) -∗ Q r) -∗ WP c (onBufs (k0_part5 (F := F)) c v2 v5 v8 v12) Q) := by
  rw [k0_part5_eq_skeleton]; unfold k0_part5_skel
  simp only [Prog.lift, Prog.bind_op, Prog.bind_ret, Prog.pure_eq_ret]
  iintro ⟨HS, Hp⟩ Hk
  iapply (sum_arrived I κ c 0 0 3 1 0 (by decide +kernel) rfl) $$ HS; iintro HS
  iapply (step_store I κ c 0 0 3 1 1 (by decide +kernel) pay4_apply) $$ [HS Hp]; · isplitl [HS] <;> iassumption
  iintro ⟨HS, Hp⟩
  iapply (gather_send I κ c 3 1 3 1 1 (by decide +kernel) (devOf_eq c 3) rfl rfl) $$ HS; iintro HS
  iapply wp_done; iapply Hk; isplitl [HS] <;> iassumption

/-- Part 6: sees transfer 1 sent, sees transfer 1 arrive, stores panel 1. -/
theorem part6 {Q : _ → sProp 𝕄} (v2 v5 v8 v12 v73 : BitVec 32) :
    iprop(St I κ c 1 4 1 1 ∗ keptAt I c) ⊢ iprop((∀ r, (St I κ c 2 4 2 2 ∗ keptAt I c) -∗ Q r) -∗ WP c (onBufs (k0_part6 (F := F)) c v2 v5 v8 v12 v73) Q) := by
  rw [k0_part6_eq_skeleton]; unfold k0_part6_skel
  simp only [Prog.lift, Prog.bind_op, Prog.bind_ret, Prog.pure_eq_ret]
  iintro ⟨HS, Hp⟩ Hk
  iapply (sum_sent I κ c 1 1 4 1 1 (by decide +kernel) rfl) $$ HS; iintro HS
  iapply (sum_arrived I κ c 1 1 4 2 1 (by decide +kernel) rfl) $$ HS; iintro HS
  iapply (step_store I κ c 1 1 4 2 2 (by decide +kernel) pay5_apply) $$ [HS Hp]; · isplitl [HS] <;> iassumption
  iintro ⟨HS, Hp⟩
  iapply wp_done; iapply Hk; isplitl [HS] <;> iassumption

/-- Part 7: starts transfer 4, sees transfer 2 sent, sees transfer 2 arrive, stores panel 2. -/
theorem part7 {Q : _ → sProp 𝕄} (v2 v8 v12 v86 : BitVec 32) :
    iprop(St I κ c 2 4 2 2 ∗ keptAt I c) ⊢ iprop((∀ r, (St I κ c 3 5 3 3 ∗ keptAt I c) -∗ Q r) -∗ WP c (onBufs (k0_part7 (F := F)) c v2 v8 v12 v86) Q) := by
  rw [k0_part7_eq_skeleton]; unfold k0_part7_skel
  simp only [Prog.lift, Prog.bind_op, Prog.bind_ret, Prog.pure_eq_ret]
  iintro ⟨HS, Hp⟩ Hk
  iapply (gather_send I κ c 4 2 4 2 2 (by decide +kernel) (devOf_eq c 4) rfl rfl) $$ HS; iintro HS
  iapply (sum_sent I κ c 2 2 5 2 2 (by decide +kernel) rfl) $$ HS; iintro HS
  iapply (sum_arrived I κ c 2 2 5 3 2 (by decide +kernel) rfl) $$ HS; iintro HS
  iapply (step_store I κ c 2 2 5 3 3 (by decide +kernel) pay6_apply) $$ [HS Hp]; · isplitl [HS] <;> iassumption
  iintro ⟨HS, Hp⟩
  iapply wp_done; iapply Hk; isplitl [HS] <;> iassumption

/-- Part 8: starts transfer 5, sees transfer 3 sent, sees transfer 3 arrive. -/
theorem part8 {Q : _ → sProp 𝕄} (v2 v5 v8 v12 v135 : BitVec 32) :
    St I κ c 3 5 3 3 ⊢ iprop((∀ r, St I κ c 3 6 4 4 -∗ Q r) -∗ WP c (onBufs (k0_part8 (F := F)) c v2 v5 v8 v12 v135) Q) := by
  rw [k0_part8_eq_skeleton]; unfold k0_part8_skel
  simp only [Prog.lift, Prog.bind_op, Prog.bind_ret, Prog.pure_eq_ret]
  iintro HS Hk
  iapply (gather_send I κ c 5 3 5 3 3 (by decide +kernel) (devOf_eq c 5) rfl rfl) $$ HS; iintro HS
  iapply (gather_sent I κ c 3 3 6 3 3 (by decide +kernel) rfl) $$ HS; iintro HS
  iapply (gather_arrived I κ c 3 3 6 4 3 (by decide +kernel) rfl) $$ HS; iintro HS
  iapply wp_done; iapply Hk; iexact HS

/-- Part 9: starts transfer 6, starts transfer 7. -/
theorem part9 {Q : _ → sProp 𝕄} (v5 v8 v12 v148 v239 : BitVec 32) :
    St I κ c 3 6 4 4 ⊢ iprop((∀ r, St I κ c 3 8 4 4 -∗ Q r) -∗ WP c (onBufs (k0_part9 (F := F)) c v5 v8 v12 v148 v239) Q) := by
  rw [k0_part9_eq_skeleton]; unfold k0_part9_skel
  simp only [Prog.lift, Prog.bind_op, Prog.bind_ret, Prog.pure_eq_ret]
  iintro HS Hk
  iapply (gather_send I κ c 6 3 6 4 4 (by decide +kernel) (devOf_eq c 6) rfl rfl) $$ HS; iintro HS
  iapply (gather_send I κ c 7 3 7 4 4 (by decide +kernel) (devOf_eq c 7) rfl rfl) $$ HS; iintro HS
  iapply wp_done; iapply Hk; iexact HS

/-- Part 10: sees transfer 4 sent, sees transfer 4 arrive, starts transfer 8. -/
theorem part10 {Q : _ → sProp 𝕄} (v2 v5 v8 v12 v173 v186 : BitVec 32) :
    St I κ c 3 8 4 4 ⊢ iprop((∀ r, St I κ c 3 9 5 5 -∗ Q r) -∗ WP c (onBufs (k0_part10 (F := F)) c v2 v5 v8 v12 v173 v186) Q) := by
  rw [k0_part10_eq_skeleton]; unfold k0_part10_skel
  simp only [Prog.lift, Prog.bind_op, Prog.bind_ret, Prog.pure_eq_ret]
  iintro HS Hk
  iapply (gather_sent I κ c 4 3 8 4 4 (by decide +kernel) rfl) $$ HS; iintro HS
  iapply (gather_arrived I κ c 4 3 8 5 4 (by decide +kernel) rfl) $$ HS; iintro HS
  iapply (gather_send I κ c 8 3 8 5 5 (by decide +kernel) (devOf_eq c 8) rfl rfl) $$ HS; iintro HS
  iapply wp_done; iapply Hk; iexact HS

/-- Part 11: starts transfer 9, sees transfer 5 sent, sees transfer 5 arrive. -/
theorem part11 {Q : _ → sProp 𝕄} (v2 v5 v8 v12 v186 v211 v302 v303 : BitVec 32) :
    St I κ c 3 9 5 5 ⊢ iprop((∀ r, St I κ c 3 10 6 6 -∗ Q r) -∗ WP c (onBufs (k0_part11 (F := F)) c v2 v5 v8 v12 v186 v211 v302 v303) Q) := by
  rw [k0_part11_eq_skeleton]; unfold k0_part11_skel
  simp only [Prog.lift, Prog.bind_op, Prog.bind_ret, Prog.pure_eq_ret]
  iintro HS Hk
  iapply (gather_send I κ c 9 3 9 5 5 (by decide +kernel) (devOf_eq c 9) rfl rfl) $$ HS; iintro HS
  iapply (gather_sent I κ c 5 3 10 5 5 (by decide +kernel) rfl) $$ HS; iintro HS
  iapply (gather_arrived I κ c 5 3 10 6 5 (by decide +kernel) rfl) $$ HS; iintro HS
  iapply wp_done; iapply Hk; iexact HS

/-- Part 12: starts transfer 10, starts transfer 11, sees transfer 6 sent. -/
theorem part12 {Q : _ → sProp 𝕄} (v2 v5 v12 v224 v239 v329 v333 v334 : BitVec 32) :
    St I κ c 3 10 6 6 ⊢ iprop((∀ r, St I κ c 3 12 7 6 -∗ Q r) -∗ WP c (onBufs (k0_part12 (F := F)) c v2 v5 v12 v224 v239 v329 v333 v334) Q) := by
  rw [k0_part12_eq_skeleton]; unfold k0_part12_skel
  simp only [Prog.lift, Prog.bind_op, Prog.bind_ret, Prog.pure_eq_ret]
  iintro HS Hk
  iapply (gather_send I κ c 10 3 10 6 6 (by decide +kernel) (devOf_eq c 10) rfl rfl) $$ HS; iintro HS
  iapply (gather_send I κ c 11 3 11 6 6 (by decide +kernel) (devOf_eq c 11) rfl rfl) $$ HS; iintro HS
  iapply (gather_sent I κ c 6 3 12 6 6 (by decide +kernel) rfl) $$ HS; iintro HS
  iapply wp_done; iapply Hk; iexact HS

/-- Part 13: sees transfer 6 arrive, sees transfer 7 sent, sees transfer 7 arrive. -/
theorem part13 {Q : _ → sProp 𝕄} (v2 v5 v8 v12 v239 v365 v366 : BitVec 32) :
    St I κ c 3 12 7 6 ⊢ iprop((∀ r, St I κ c 3 12 8 8 -∗ Q r) -∗ WP c (onBufs (k0_part13 (F := F)) c v2 v5 v8 v12 v239 v365 v366) Q) := by
  rw [k0_part13_eq_skeleton]; unfold k0_part13_skel
  simp only [Prog.lift, Prog.bind_op, Prog.bind_ret, Prog.pure_eq_ret]
  iintro HS Hk
  iapply (gather_arrived I κ c 6 3 12 7 6 (by decide +kernel) rfl) $$ HS; iintro HS
  iapply (gather_sent I κ c 7 3 12 7 7 (by decide +kernel) rfl) $$ HS; iintro HS
  iapply (gather_arrived I κ c 7 3 12 8 7 (by decide +kernel) rfl) $$ HS; iintro HS
  iapply wp_done; iapply Hk; iexact HS

/-- Part 14: starts transfer 12, starts transfer 13, starts transfer 14. -/
theorem part14 {Q : _ → sProp 𝕄} (v2 v8 v148 v268 v269 v388 : BitVec 32) :
    St I κ c 3 12 8 8 ⊢ iprop((∀ r, St I κ c 3 15 8 8 -∗ Q r) -∗ WP c (onBufs (k0_part14 (F := F)) c v2 v8 v148 v268 v269 v388) Q) := by
  rw [k0_part14_eq_skeleton]; unfold k0_part14_skel
  simp only [Prog.lift, Prog.bind_op, Prog.bind_ret, Prog.pure_eq_ret]
  iintro HS Hk
  iapply (gather_send I κ c 12 3 12 8 8 (by decide +kernel) (devOf_eq c 12) rfl rfl) $$ HS; iintro HS
  iapply (gather_send I κ c 13 3 13 8 8 (by decide +kernel) (devOf_eq c 13) rfl rfl) $$ HS; iintro HS
  iapply (gather_send I κ c 14 3 14 8 8 (by decide +kernel) (devOf_eq c 14) rfl rfl) $$ HS; iintro HS
  iapply wp_done; iapply Hk; iexact HS
end Parts

end Cert.AllReduce

end
-- ==== Proof.Body.lean ====
/-
The kernel's body, its parts one after another: from the exchange not begun to the normalised result.
-/
module

public import proofs.«01_k».proof.Proof.Closing
public import proofs.«01_k».proof.Proof.PartsA

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (κ : GSem nD τ sig → ℕ) (c : Dev nD)

/-- What the body is entered with. -/
def Start : sProp 𝕄 :=
  iprop(Ready I κ c (insert 0 (insert 1 (insert 2 ∅))) (owedAll c)
    ∗ ((c : Thread nD τ).loc main_v1 ↦{fullShare} I.p c) ∗ ((c : Thread nD τ).loc main_arg1 ↦{fullShare} I.r c) ∗ ((c : Thread nD τ).loc cc0_stg0_0 ↦{fullShare} I.g c)
    ∗ (∃ x : Vec F S256x2048 .f32, ((c : Thread nD τ).loc cc0_scratch0 ↦{fullShare} x)) ∗ (∃ y : Vec F S256x2048 .f32, ((c : Thread nD τ).loc cc0_scratch1 ↦{fullShare} y))
    ∗ (∃ z : Vec F S256x2048 .f32, ((c : Thread nD τ).loc cc0_scratch2 ↦{fullShare} z)) ∗ (∃ w : Vec F S256x2048 .bf16, ((c : Thread nD τ).loc cc0_scratch3 ↦{fullShare} w)))

/-- The buffers the kernel works in, at some contents. -/
def Works : sProp 𝕄 :=
  iprop((∃ x : Vec F S256x2048 .f32, ((c : Thread nD τ).loc cc0_scratch0 ↦{fullShare} x)) ∗ (∃ y : Vec F S256x2048 .f32, ((c : Thread nD τ).loc cc0_scratch1 ↦{fullShare} y))
    ∗ (∃ z : Vec F S256x2048 .f32, ((c : Thread nD τ).loc cc0_scratch2 ↦{fullShare} z)) ∗ (∃ w : Vec F S256x2048 .bf16, ((c : Thread nD τ).loc cc0_scratch3 ↦{fullShare} w))
    ∗ (∃ w : Vec F S256x2048 .bf16, ((c : Thread nD τ).loc cc0_scratch4 ↦{fullShare} w)))

/-- The kernel's own semaphores, each at zero. -/
def Quiet : sProp 𝕄 :=
  iprop((bigSep Finset.univ fun i : Fin 3 => (semVal (copyCell c i) 0 : sProp 𝕄)) ∗ (bigSep Finset.univ fun t : Fin 24 => (semVal (sendCell c t) 0 : sProp 𝕄))
    ∗ (bigSep Finset.univ fun t : Fin 24 => (semVal (recvCell c t) 0 : sProp 𝕄)))

/-- What it is left with: the normalised result, the arrays it read as they were, every semaphore at zero, nothing owed. -/
def Finish : sProp 𝕄 :=
  iprop(((c : Thread nD τ).loc cc0_stg1_0 ↦{fullShare} norm I c) ∗ ((c : Thread nD τ).loc cc0_stg0_0 ↦{fullShare} I.g c)
    ∗ ((c : Thread nD τ).loc main_v1 ↦{fullShare} I.p c) ∗ ((c : Thread nD τ).loc main_arg1 ↦{fullShare} I.r c)
    ∗ Works (F := F) c ∗ semVal (barCell c) 0 ∗ Quiet (F := F) c ∗ owing (F := F) c 0)

/-- A part, then what follows it. -/
theorem after_part {α β : Type} {A X : sProp 𝕄} {p : Prog (TpuEff nD τ sig (Elt F) Λ₀ .tc) β} {k : β → Prog (TpuEff nD τ sig (Elt F) Λ₀ .tc) α}
    {Q : α → sProp 𝕄} (h : A ⊢ iprop(X -∗ WP c p (fun r => WP c (k r) Q))) : A ⊢ iprop(X -∗ WP c (p >>= k) Q) := by
  unfold WP at *
  rw [wp_bind]
  exact h

/-- The rows read back make the arrays copied from whole again. -/
theorem rejoin : iprop(copyPay I c 0 ∗ ((c : Thread nD τ).loc main_v1 ↦[rowSet (blk c)]{fullShare} I.p c) ∗ copyPay I c 2 ∗ others I c)
    ⊢ iprop(((c : Thread nD τ).loc main_v1 ↦{fullShare} I.p c) ∗ ((c : Thread nD τ).loc main_arg1 ↦{fullShare} I.r c)
      ∗ (∃ y : Vec F S256x2048 .f32, ((c : Thread nD τ).loc cc0_scratch1 ↦{fullShare} y)) ∗ (∃ z : Vec F S256x2048 .f32, ((c : Thread nD τ).loc cc0_scratch2 ↦{fullShare} z))) := by
  rw [pay_given, pay_res]; unfold others
  iintro ⟨⟨Hy, Hp0⟩, Hp1, ⟨Hz, Hr0⟩, Hp, Hr⟩
  isplitl [Hp0 Hp1 Hp]
  · iapply (p_rows I c).2
    isplitl [Hp0]; · iexact Hp0
    isplitl [Hp1] <;> iassumption
  isplitl [Hr0 Hr]
  · iapply (r_rows I c).2
    isplitl [Hr0] <;> iassumption
  isplitl [Hy]
  · iexists _; iexact Hy
  iexists _; iexact Hz

set_option maxHeartbeats 1600000 in
set_option maxRecDepth 65536 in
/-- The body, from start to finish. -/
theorem body_run {Q : PUnit → sProp 𝕄} :
    Start I κ c ⊢ iprop((Finish I c -∗ Q ⟨⟩) -∗ WP c (onBufs (cc0_body (F := F))) Q) := by
  rw [cc0_body_eq_skeleton]; unfold cc0_body_skel Start
  iintro ⟨HR, Hp, Hr, Hg, ⟨%x, Hx⟩, ⟨%y, Hy⟩, ⟨%z, Hz⟩, ⟨%w, Hw⟩⟩ Hk
  iapply (after_part c (part1 I κ c)) $$ HR; iintro %v2 %v5 %v8 %v12 %v17 HR; dsimp only
  iapply (after_part c (part2 I κ c x y z w _ _ _ _ _ _)) $$ [HR Hp Hr Hx Hy Hz Hw]
  · isplitl [HR]; · iexact HR
    isplitl [Hp]; · iexact Hp
    isplitl [Hr]; · iexact Hr
    isplitl [Hx]; · iexact Hx
    isplitl [Hy]; · iexact Hy
    isplitl [Hz] <;> iassumption
  iintro %r2 ⟨HS, HC1, HC2, Hpay0, Hot, Hbar, Hc0⟩
  iapply (after_part c (part3 I κ c _ _ _ _)) $$ HS; iintro %r3 HS
  obtain ⟨a0, a1⟩ := r3; dsimp only
  iapply (after_part c (part4 I κ c _ _ _)) $$ [HS HC1 HC2]
  · isplitl [HS]; · iexact HS
    isplitl [HC1] <;> iassumption
  iintro %r4 ⟨HS, Hx, Hrow, Hpay2, Hc1, Hc2⟩
  ihave HS := (show iprop(St I κ c 0 3 1 0 ∗ keptAt I c) ⊢ iprop(St I κ c 0 3 1 0 ∗ keptAt I c) from Entails.refl _) $$ [HS Hx]
  · isplitl [HS] <;> iassumption
  iapply (after_part c (part5 I κ c _ _ _ _)) $$ HS; iintro %r5 HS
  obtain ⟨a0, a1⟩ := r5; dsimp only
  iapply (after_part c (part6 I κ c _ _ _ _ _)) $$ HS; iintro %r6 HS
  iapply (after_part c (part7 I κ c _ _ _ _)) $$ HS; iintro %r7 HS
  icases HS with ⟨HS, Hx⟩
  iapply (after_part c (part8 I κ c _ _ _ _ _)) $$ HS; iintro %r8 HS
  obtain ⟨a0, a1, a2⟩ := r8; dsimp only
  iapply (after_part c (part9 I κ c _ _ _ _ _)) $$ HS; iintro %r9 HS
  obtain ⟨a0, a1⟩ := r9; dsimp only
  iapply (after_part c (part10 I κ c _ _ _ _ _ _)) $$ HS; iintro %r10 HS
  obtain ⟨a0, a1, a2⟩ := r10; dsimp only
  iapply (after_part c (part11 I κ c _ _ _ _ _ _ _ _)) $$ HS; iintro %r11 HS
  obtain ⟨a0, a1, a2, a3, a4⟩ := r11; dsimp only
  iapply (after_part c (part12 I κ c _ _ _ _ _ _ _ _)) $$ HS; iintro %r12 HS
  obtain ⟨a0, a1, a2, a3⟩ := r12; dsimp only
  iapply (after_part c (part13 I κ c _ _ _ _ _ _ _)) $$ HS; iintro %r13 HS
  iapply (after_part c (part14 I κ c _ _ _ _ _ _)) $$ HS; iintro %r14 HS
  iapply (after_part c (part15 I κ c _ _ _ _ _ _)) $$ HS; iintro %r15 HS
  iapply (after_part c (part16 I κ c _ _ _ _ _ _)) $$ HS; iintro %r16 HS
  obtain ⟨a0, a1⟩ := r16; dsimp only
  iapply (after_part c (part17 I κ c _ _ _ _ _ _)) $$ HS; iintro %r17 HS
  iapply (after_part c (part18 I κ c _ _ _)) $$ HS; iintro %r18 HS
  iapply (after_part c (part19 I κ c _ _ _ _ _ _)) $$ HS; iintro %r19 HS
  obtain ⟨a0, a1⟩ := r19; dsimp only
  iapply (after_part c (part20 I κ c _ _ _ _ _ _ _)) $$ HS; iintro %r20 HS
  obtain ⟨a0, a1⟩ := r20; dsimp only
  iapply (after_part c (part21 I κ c _ _ _ _ _)) $$ HS; iintro %r21 HS
  obtain ⟨a0, a1⟩ := r21; dsimp only
  iapply (after_part c (part22 I κ c _ _ _ _ _ _ _)) $$ HS; iintro %r22 HS
  iapply (after_part c (part23 I κ c _ _ _)) $$ HS; iintro %r23 HS
  iapply (after_part c (part24 I κ c _ _ _ _ _)) $$ HS; iintro %r24 HS
  iapply (after_part c (part25 I κ c _ _ _)) $$ HS; iintro %r25 HS
  iapply (after_part c (part26 I κ c _ _ _)) $$ [HS Hg]
  · isplitl [HS] <;> iassumption
  iintro %r26 ⟨HN, HE⟩
  iapply (after_part c (part27 I c)) $$ HN; iintro HN
  iapply (after_part c (part28 I c)) $$ HN; iintro HN
  iapply (after_part c (part29 I c)) $$ HN; iintro HN; dsimp only
  simp only [Prog.lift, Prog.bind_op, Prog.bind_ret, Prog.pure_eq_ret]
  iapply (norm_store I c 7 7 8 rfl rfl (fun g => pay1_eq _ g)) $$ HN; iintro HN
  iapply wp_done; iapply Hk
  ihave Hj := (rejoin I c) $$ [Hpay0 Hrow Hpay2 Hot]
  · isplitl [Hpay0]; · iexact Hpay0
    isplitl [Hrow]; · iexact Hrow
    isplitl [Hpay2] <;> iassumption
  icases Hj with ⟨Hp, Hr, Hy, Hz⟩
  unfold Norm
  rw [upTo_eight]
  unfold Over
  icases HN with ⟨Ho, Hg⟩
  icases HE with ⟨HzS, HzR, Hs, Hv, HO⟩
  unfold Finish Works Quiet
  rw [three]
  isplitl [Ho]; · iexact Ho
  isplitl [Hg]; · iexact Hg
  isplitl [Hp]; · iexact Hp
  isplitl [Hr]; · iexact Hr
  isplitl [Hx Hy Hz Hs Hv]
  · isplitl [Hx]; · iexists _; iexact Hx
    isplitl [Hy]; · iexact Hy
    isplitl [Hz]; · iexact Hz
    isplitl [Hs]; · iexists _; iexact Hs
    iexists _; iexact Hv
  isplitl [Hbar]; · iexact Hbar
  isplitl [Hc0 Hc1 Hc2 HzS HzR]
  · isplitl [Hc0 Hc1 Hc2]
    · isplitl [Hc0]; · iexact Hc0
      isplitl [Hc1] <;> iassumption
    isplitl [HzS] <;> iassumption
  iexact HO

end Cert.AllReduce

end
-- ==== Proof.Own.lean ====
/-
What the launch deals a device, and the kernel's own semaphores opened at its start.

The barrier's cell is open from the launch on. The cells of the kernel's own semaphores are not: the launch gives each
device the right to open its own, and the kernel's start, where their counters are at zero, opens them.
-/
module

public import proofs.«01_k».proof.Proof.Body
public import proofs.«01_k».proof.Proof.Gen.KernelIdeal.Frame

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's own semaphores: of its local copies, of its transfers' sending, and of their arrival. -/
abbrev Own : Type := Fin 3 ⊕ (Fin 24 ⊕ Fin 24)

def ownSem : Own → SemLoc sig
  | .inl i => .dma (copySem i)
  | .inr (.inl t) => .dma (sendSem t)
  | .inr (.inr t) => .dma (recvSem t)

def ownUse : Own → Use
  | .inl i => .copy i
  | .inr (.inl t) => .send t
  | .inr (.inr t) => .recv t

theorem use_own (k : Own) : use (ownSem k) = ownUse k := by
  rcases k with i | t | t
  · exact use_copy i
  · exact use_send t
  · exact use_recv t
theorem ownUse_inj : Function.Injective ownUse := by
  rintro (i | t | t) (j | u | u) h <;> cases h <;> rfl
theorem ownSem_inj : Function.Injective ownSem := fun k k' h =>
  ownUse_inj (by rw [← use_own, ← use_own, h])
theorem ownSem_ne_bar (k : Own) : ownSem k ≠ .reg barS := fun h => by
  have e := use_own k
  rw [h, use_bar] at e
  rcases k with i | t | t <;> cases e

theorem use_staging (w : Fin 2) (s : Fin (spec0 w).nbuf) : use (.dma ((spec0 w).sem s)) = .other := by
  revert s; fin_cases w <;> decide

theorem dma_scoped : ∀ q : DmaSem sig, SemLoc.isScoped (sig := sig) .tc (.dma q) = true := by decide

theorem ownFacts : Pipeline.OwnSemFacts spec0 ownSem where
  isScoped k := by rcases k with i | t | t <;> exact dma_scoped _
  inj := ownSem_inj
  disj k w s h := by
    have e := use_own k
    rw [h, use_staging] at e
    rcases k with i | t | t <;> cases e

theorem over_own (Φ : Own → sProp 𝕄) : bigSep Finset.univ Φ
    = iprop((bigSep Finset.univ fun i : Fin 3 => Φ (.inl i)) ∗ (bigSep Finset.univ fun t : Fin 24 => Φ (.inr (.inl t)))
      ∗ (bigSep Finset.univ fun t : Fin 24 => Φ (.inr (.inr t)))) := by
  rw [bigSep_univ_sum, bigSep_univ_sum]; rfl

variable (I : Inp F) (κ : GSem nD τ sig → ℕ) (c : Dev nD)

abbrev ownCell (k : Own) : GSem nD τ sig := ((c : Thread nD τ), ownSem k)
theorem own_mem (k : Own) : ownCell c k ∈ allCells := by
  rcases k with i | t | t
  · exact copy_mem c i
  · exact send_mem c t
  · exact recv_mem c t

theorem ownSems_eq : (Pipeline.ownSems0 (Ix := Unit) (Name := ℕ) (U := UU) (Lvl := ℕ) (Val := Elt F) (τ := τ) ownSem c : sProp 𝕄) = Quiet (F := F) c := by
  unfold Pipeline.ownSems0 Quiet
  exact over_own fun k => (semVal (ownCell c k) 0 : sProp 𝕄)

/-- The rights to pay a device has: its partners' barrier cells, its copies', its transfers' at both ends. -/
def Tokens : sProp 𝕄 :=
  iprop((bigSep Finset.univ fun a : Fin 3 => (dutyTok ER (barCell (pr a c)) 0 a : sProp 𝕄))
    ∗ (bigSep Finset.univ fun i : Fin 3 => (dutyTok ER (copyCell c i) 0 0 : sProp 𝕄))
    ∗ (bigSep Finset.univ fun t : Fin 24 => (dutyTok ER (sendCell c t) 0 0 : sProp 𝕄))
    ∗ (bigSep Finset.univ fun t : Fin 24 => (dutyTok ER (recvCell (peer t c) t) 0 0 : sProp 𝕄)))
/-- What the launch deals it: its place at its barrier cell, the rights to open its own cells, and the rights to pay. -/
def Deal : sProp 𝕄 :=
  iprop(atPos ER (barCell c) 0 ∅ 0 ∗ (bigSep Finset.univ fun k : Own => (openTok ER (ownCell c k) : sProp 𝕄)) ∗ Tokens (F := F) c)
/-- The credit of its barrier's three units and of the arriving transfers. -/
def Credits : sProp 𝕄 :=
  iprop(cred (tallyAt (barCell c) () 3) ∗ bigSep Finset.univ fun t : Fin 24 => (cred (tallyAt (recvCell c t) () (amt t)) : sProp 𝕄))
/-- Every barrier cell is open. -/
def Marks : sProp 𝕄 := bigSep Finset.univ fun d : Dev nD => (reached ER (barCell d) 0 : sProp 𝕄)
instance Marks_persistent : BI.Persistent (Marks (F := F)) := by unfold Marks; infer_instance

/-- What a device keeps up to the kernel's start; -/
def Kept : sProp 𝕄 := iprop((∃ κ, Env I κ ∗ Marks (F := F) ∗ Deal (F := F) c) ∗ Credits (F := F) c)
/-- and what it has there, its own cells open. -/
def Opened : sProp 𝕄 :=
  iprop(Env I κ ∗ (atPos ER (barCell c) 0 ∅ 0 ∗ cred (tallyAt (barCell c) () 3))
    ∗ (bigSep Finset.univ fun a : Fin 3 => iprop(dutyTok ER (barCell (pr a c)) 0 a ∗ reached ER (barCell (pr a c)) 0))
    ∗ (bigSep Finset.univ fun t : Fin 24 => (reached ER (recvCell c t) 0 : sProp 𝕄))
    ∗ bigSep Finset.univ (sendOwn (F := F) c) ∗ bigSep Finset.univ (recvOwn (F := F) c) ∗ bigSep Finset.univ (copyOwn (F := F) c))

theorem open_one (k : Own) : iprop(Env I κ ∗ (openTok ER (ownCell c k) ∗ semVal (ownCell c k) 0))
    ⊢ (|={Set.univ}=> iprop(atPos ER (ownCell c k) 0 ∅ 0 ∗ reached ER (ownCell c k) 0) : sProp 𝕄) := by
  iintro ⟨#HE, Ho, Hv⟩
  iapply (Rounds.cell_open ER (Rd I) (g := ownCell c k) (Set.mem_univ (κ (ownCell c k))))
  isplitr; · iapply (env_inv I κ (own_mem c k)); iexact HE
  isplitl [Ho] <;> iassumption

theorem open_own : iprop(Env I κ ∗ ((bigSep Finset.univ fun k : Own => (openTok ER (ownCell c k) : sProp 𝕄)) ∗ (bigSep Finset.univ fun k : Own => (semVal (ownCell c k) 0 : sProp 𝕄))))
    ⊢ (|={Set.univ}=> iprop((bigSep Finset.univ fun k : Own => (atPos ER (ownCell c k) 0 ∅ 0 : sProp 𝕄)) ∗ (bigSep Finset.univ fun k : Own => (reached ER (ownCell c k) 0 : sProp 𝕄))) : sProp 𝕄) := by
  rw [← bigSep_sep', ← bigSep_sep']
  exact (bigSep_with_persistent fun k _ => open_one I κ c k).trans (bigSep_fupd _ _)

theorem marks_at (d : Dev nD) : Marks (F := F) ⊢ reached ER (barCell d) 0 := bigSep_elim (Finset.mem_univ d)
theorem signal_rights : iprop(Marks (F := F) ∗ bigSep Finset.univ fun a : Fin 3 => (dutyTok ER (barCell (pr a c)) 0 a : sProp 𝕄))
    ⊢ bigSep Finset.univ fun a : Fin 3 => iprop(dutyTok ER (barCell (pr a c)) 0 a ∗ reached ER (barCell (pr a c)) 0) :=
  bigSep_with_persistent fun a _ => by
    iintro ⟨#HM, Ht⟩
    isplitl [Ht]; · iexact Ht
    iapply (marks_at (F := F) (pr a c)); iexact HM

theorem sendOwn_of : iprop((bigSep Finset.univ fun t : Fin 24 => (atPos ER (sendCell c t) 0 ∅ 0 : sProp 𝕄)) ∗ (bigSep Finset.univ fun t : Fin 24 => (reached ER (sendCell c t) 0 : sProp 𝕄))
      ∗ (bigSep Finset.univ fun t : Fin 24 => (dutyTok ER (sendCell c t) 0 0 : sProp 𝕄)) ∗ (bigSep Finset.univ fun t : Fin 24 => (dutyTok ER (recvCell (peer t c) t) 0 0 : sProp 𝕄)))
    ⊢ bigSep Finset.univ (sendOwn (F := F) c) := by
  rw [← bigSep_sep', ← bigSep_sep', ← bigSep_sep']; exact Entails.refl _
theorem copyOwn_of : iprop((bigSep Finset.univ fun i : Fin 3 => (atPos ER (copyCell c i) 0 ∅ 0 : sProp 𝕄)) ∗ (bigSep Finset.univ fun i : Fin 3 => (reached ER (copyCell c i) 0 : sProp 𝕄))
      ∗ (bigSep Finset.univ fun i : Fin 3 => (dutyTok ER (copyCell c i) 0 0 : sProp 𝕄)))
    ⊢ bigSep Finset.univ (copyOwn (F := F) c) := by
  rw [← bigSep_sep', ← bigSep_sep']; exact Entails.refl _
theorem recvOwn_of : iprop((bigSep Finset.univ fun t : Fin 24 => (atPos ER (recvCell c t) 0 ∅ 0 : sProp 𝕄)) ∗ (bigSep Finset.univ fun t : Fin 24 => (cred (tallyAt (recvCell c t) () (amt t)) : sProp 𝕄)))
    ⊢ bigSep Finset.univ (recvOwn (F := F) c) := by
  rw [← bigSep_sep']; exact Entails.refl _

/-- The kernel's start opens its cells. -/
theorem kept_open : iprop(Kept I c ∗ Quiet (F := F) c ∗ levAts L lv) ⊢ (|={Set.univ}=> iprop(∃ κ, Opened I κ c) : sProp 𝕄) := by
  rw [← ownSems_eq]
  unfold Kept Deal Tokens Credits Pipeline.ownSems0
  iintro ⟨⟨⟨%κ, #HE, #HM, Ha, Ho, HtB, HtC, HtS, HtR⟩, HcB, HcR⟩, Hv, -⟩
  imod (open_own I κ c) $$ [Ho Hv] with ⟨Hat, Hr⟩
  · isplitr; · iexact HE
    isplitl [Ho] <;> iassumption
  ihave Hat := (Entails.of_eq (over_own fun k => (atPos ER (ownCell c k) 0 ∅ 0 : sProp 𝕄))) $$ Hat
  ihave Hr := (Entails.of_eq (over_own fun k => (reached ER (ownCell c k) 0 : sProp 𝕄))) $$ Hr
  icases Hat with ⟨HaC, HaS, HaR⟩
  icases Hr with ⟨HrC, HrS, HrR⟩
  imodintro
  iexists κ; unfold Opened
  isplitr; · iexact HE
  isplitl [Ha HcB]; · isplitl [Ha] <;> iassumption
  isplitl [HtB]
  · iapply (signal_rights (F := F) c)
    isplitr; · iexact HM
    iexact HtB
  isplitl [HrR]; · iexact HrR
  isplitl [HaS HrS HtS HtR]
  · iapply (sendOwn_of (F := F) c)
    isplitl [HaS]; · iexact HaS
    isplitl [HrS]; · iexact HrS
    isplitl [HtS] <;> iassumption
  isplitl [HaR HcR]
  · iapply (recvOwn_of (F := F) c)
    isplitl [HaR]; · iexact HaR
    iexact HcR
  iapply (copyOwn_of (F := F) c)
  isplitl [HaC]; · iexact HaC
  isplitl [HrC]; · iexact HrC
  iexact HtC

theorem signal_kit (a : Fin 3) : iprop((dutyTok ER (barCell (pr a c)) 0 a ∗ reached ER (barCell (pr a c)) 0)
      ∗ bigSep (along a) fun t => iprop(land (F := F) c (rkey t) ∗ reached ER (recvCell c t) 0)) ⊢ signalKit (F := F) c a := by
  unfold signalKit
  iintro ⟨⟨H1, H2⟩, H3⟩
  isplitl [H1]; · iexact H1
  isplitl [H2] <;> iassumption

/-- With the places the transfers fill, what a signal along each axis takes. -/
theorem signal_kits : iprop((bigSep Finset.univ fun a : Fin 3 => iprop(dutyTok ER (barCell (pr a c)) 0 a ∗ reached ER (barCell (pr a c)) 0))
      ∗ (bigSep Finset.univ fun t : Fin 24 => (reached ER (recvCell c t) 0 : sProp 𝕄)) ∗ (bigSep Finset.univ fun t : Fin 24 => land (F := F) c (rkey t)))
    ⊢ bigSep Finset.univ (signalKit (F := F) c) := by
  have e : iprop((bigSep Finset.univ fun t : Fin 24 => (reached ER (recvCell c t) 0 : sProp 𝕄)) ∗ (bigSep Finset.univ fun t : Fin 24 => land (F := F) c (rkey t)))
      ⊢ (bigSep Finset.univ fun a : Fin 3 => bigSep (along a) fun t => iprop(land (F := F) c (rkey t) ∗ reached ER (recvCell c t) 0) : sProp 𝕄) := by
    rw [← by_axis, bigSep_sep']
    iintro ⟨Hr, Hl⟩
    isplitl [Hl] <;> iassumption
  refine (sep_mono_right e).trans ?_
  rw [← bigSep_sep']
  exact bigSep_mono fun a _ => signal_kit c a

/-- What the body is entered with, from its cells opened, its buffers and its arrays. -/
theorem start_of (o : Vec F S2048x2048 .bf16) :
    iprop(Opened I κ c ∗ ((c : Thread nD τ).loc cc0_stg1_0 ↦{fullShare} o) ∗ Works (F := F) c
      ∗ ((c : Thread nD τ).loc main_v1 ↦{fullShare} I.p c) ∗ ((c : Thread nD τ).loc main_arg1 ↦{fullShare} I.r c) ∗ ((c : Thread nD τ).loc cc0_stg0_0 ↦{fullShare} I.g c)
      ∗ owing (F := F) c (owedAll c))
    ⊢ Start I κ c := by
  unfold Opened Works Start Ready
  iintro ⟨⟨#HE, Hb, Ht, Hr, Hs, Hv, Hc⟩, Ho, ⟨Hx, Hy, Hz, Hw, ⟨%r, Hq⟩⟩, Hp, Hres, Hg, HO⟩
  ihave Hl := (pieces_start (F := F) c o r) $$ [Ho Hq]
  · isplitl [Ho] <;> iassumption
  icases Hl with ⟨Hl0, Hl⟩
  ihave Hk := (signal_kits (F := F) c) $$ [Ht Hr Hl]
  · isplitl [Ht]; · iexact Ht
    isplitl [Hr] <;> iassumption
  isplitr [Hp Hres Hg Hx Hy Hz Hw]
  · isplitr; · iexact HE
    isplitl [Hb]; · iexact Hb
    isplitl [Hk]; · iexact Hk
    isplitl [Hs]; · iexact Hs
    isplitl [Hv]; · iexact Hv
    isplitl [Hc]; · iexact Hc
    isplitl [Hl0] <;> iassumption
  isplitl [Hp]; · iexact Hp
  isplitl [Hres]; · iexact Hres
  isplitl [Hg]; · iexact Hg
  isplitl [Hx]; · iexact Hx
  isplitl [Hy]; · iexact Hy
  isplitl [Hz] <;> iassumption

end Cert.AllReduce

end
-- ==== Proof.Region.lean ====
/-
The kernel's call as a region of the program: what it is entered with and what it leaves.

The host has reshaped the summands and the scale before it. The call's one point fetches the scale, runs the body, and
writes the result back.
-/
module

public import proofs.«01_k».proof.Proof.Own
public import Idealize.ShloMosaic.Lib.Pipeline.RegionTalk
public import Idealize.ShloMosaic.Lib.Pipeline.ValueKit.Geometry

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (c : Dev nD)

/-- A device's buffers at launch, -/
abbrev V₀ : Valuation τ sig (Elt F) := fun b => m (c, b)
/-- when the kernel is called, -/
abbrev V₁ : Valuation τ sig (Elt F) := StableHlo.after hostOps0 (V₀ m c)
/-- The arrays the kernel works on. -/
def inp : Inp F where
  p d := V₁ m d main_v1
  r d := V₁ m d main_arg1
  g d := V₁ m d main_v2
/-- and when it has returned. -/
abbrev V₂ : Valuation τ sig (Elt F) := Function.update (V₁ m c) (Proc.devRef .tc main_v3) (norm (inp m) c)

theorem V₂_result : V₂ m c main_v3 = norm (inp m) c := Function.update_self ..
theorem V₂_other {b : Ref sig .tc} (h : (Proc.devRef .tc b : DevRef τ sig) ≠ Proc.devRef .tc main_v3) : V₂ m c b = V₁ m c b :=
  Function.update_of_ne h ..

/-- What the body is entered with and what it leaves, its windows apart. -/
def Entry : sProp 𝕄 :=
  iprop((∃ κ, Opened (inp m) κ c) ∗ ((c : Thread nD τ).loc main_v1 ↦{fullShare} (inp m).p c) ∗ ((c : Thread nD τ).loc main_arg1 ↦{fullShare} (inp m).r c)
    ∗ Works (F := F) c ∗ ∃ r, prngReg c r)
def Exit : sProp 𝕄 :=
  iprop(semVal (barCell c) 0 ∗ Quiet (F := F) c ∗ ((c : Thread nD τ).loc main_v1 ↦{fullShare} (inp m).p c) ∗ ((c : Thread nD τ).loc main_arg1 ↦{fullShare} (inp m).r c)
    ∗ Works (F := F) c ∗ ∃ r, prngReg c r)

/-- The call's proof data. -/
def dat : Dat τ (Elt F) Unit ℕ UU ℕ cfg0 c where
  A w := V₁ m c (Proc.devRef .tc (Pipeline.arrRef spec0 w))
  after w _ := match w with
    | ⟨0, _⟩ => (inp m).g c
    | ⟨1, _⟩ => norm (inp m) c
  Φ t := if t.val = 0 then Entry m c else Exit m c
  q _ := fullShare
  owed t := if t.val = 0 then owedAll c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem N_one : cfg0.N = 1 := N_0
def t₀ : Fin cfg0.N := ⟨0, by rw [N_one]; decide⟩
theorem fin_N (t : Fin cfg0.N) : t = t₀ := by obtain ⟨t, ht⟩ := t; have := N_one; simp only [t₀, Fin.mk.injEq]; omega

theorem owed_first : (dat m c).owed t₀.castSucc = owedAll c := by
  show (if (t₀.castSucc : Fin (cfg0.N + 1)).val = 0 then owedAll c else 0) = _; exact if_pos rfl
theorem owed_zero : (pdats m 0 c).owed 0 = owedAll c := by
  show (if (0 : Fin (cfg0.N + 1)).val = 0 then owedAll c else 0) = _; exact if_pos rfl
theorem owed_last : (dat m c).owed (Fin.last _) = 0 := by
  show (if (Fin.last cfg0.N).val = 0 then owedAll c else 0) = _; rw [Fin.val_last, N_one]; exact if_neg Nat.one_ne_zero
theorem Φ_first : (dat m c).Φ t₀.castSucc = Entry m c := by
  show (if (t₀.castSucc : Fin (cfg0.N + 1)).val = 0 then Entry m c else Exit m c) = _; exact if_pos rfl
theorem Φ_last : (dat m c).Φ (Fin.last _) = Exit m c := by
  show (if (Fin.last cfg0.N).val = 0 then Entry m c else Exit m c) = _; rw [Fin.val_last, N_one]; exact if_neg Nat.one_ne_zero
theorem last_eq : (t₀.succ : Fin (cfg0.N + 1)) = Fin.last _ := Fin.ext N_one.symm

theorem owesAt_in (t : Fin (cfg0.N + 1)) (O : CellTallies nD τ sig Unit) (h : (dat m c).owed t = O) :
    ((dat m c).owesAt () t : sProp 𝕄) ⊢ owing (F := F) c O := by
  unfold Dat.owesAt Pipeline.owesWithin owing; rw [h]
  iintro ⟨%W, -, HO⟩; iexists W; iexact HO
theorem owesAt_out (t : Fin (cfg0.N + 1)) (O : CellTallies nD τ sig Unit) (h : (dat m c).owed t = O) :
    owing (F := F) c O ⊢ ((dat m c).owesAt () t : sProp 𝕄) := by
  unfold Dat.owesAt Pipeline.owesWithin owing; rw [h]
  iintro ⟨%W, HO⟩; iexists W; isplitr; · ipureintro; exact fun _ _ => Or.inl trivial
  iexact HO

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at given contents. -/
abbrev staged (b : Ref sig .tc) (X : b.ty.Contents (Elt F)) : sProp 𝕄 :=
  iprop(∃ f : Buf (Elt F) ((c : Thread nD τ).loc b), ⌜f = X⌝ ∗ ((c : Thread nD τ).loc b ↦{fullShare} f))

/-- Either staged block is its whole array. -/
theorem scale_at (t : Fin cfg0.N) (y : S1x2048.Idx) : (win0_0.blk t).view.emb y = y := by
  have e : win0_0.index t = fun _ => 0 := rfl
  blk_ext [e]
theorem result_at (t : Fin cfg0.N) (y : S2048x2048.Idx) : (win0_1.blk t).view.emb y = y := by
  have e : win0_1.index t = fun _ => 0 := rfl
  blk_ext [e]

/-- The scale is staged as it is. -/
theorem before_scale (d) : (dat m c).before (0 : Fin 2) t₀ d = (inp m).g c := by
  unfold Dat.before; rw [if_pos (fetch0_0 t₀)]; exact funext fun i => congrArg ((inp m).g c) (scale_at t₀ i)

/-- The body's resources at its one point. -/
def bodyPre : sProp 𝕄 :=
  iprop(Entry m c ∗ (dat m c).owesAt () t₀.castSucc ∗ (∃ d, staged c cc0_stg0_0 ((dat m c).before (0 : Fin 2) t₀ d))
    ∗ (∃ d, staged c cc0_stg1_0 ((dat m c).before (1 : Fin 2) t₀ d)))
def bodyPost : sProp 𝕄 :=
  iprop(Exit m c ∗ (dat m c).owesAt () t₀.succ ∗ staged c cc0_stg0_0 ((inp m).g c) ∗ staged c cc0_stg1_0 (norm (inp m) c))

theorem finish_post : iprop(Finish (inp m) c ∗ ∃ r, prngReg c r) ⊢ bodyPost m c := by
  unfold Finish bodyPost Exit
  iintro ⟨⟨Ho, Hg, Hp, Hr, Hw, Hb, Hq, HO⟩, Hprng⟩
  isplitl [Hb Hq Hp Hr Hw Hprng]
  · isplitl [Hb]; · iexact Hb
    isplitl [Hq]; · iexact Hq
    isplitl [Hp]; · iexact Hp
    isplitl [Hr]; · iexact Hr
    isplitl [Hw] <;> iassumption
  isplitl [HO]
  · iapply (owesAt_out m c t₀.succ 0 (by rw [last_eq]; exact owed_last m c)); iexact HO
  isplitl [Hg]
  · iexists _; isplitr; · ipureintro; rfl
    iexact Hg
  iexists _; isplitr; · ipureintro; rfl
  iexact Ho

/-- The body at its point. -/
theorem body_point : bodyPre m c ⊢ WP c (onBufs (cc0_body (F := F))) fun _ => bodyPost m c := by
  unfold bodyPre Entry
  iintro ⟨⟨⟨%κ, Hop⟩, Hp, Hr, Hw, Hprng⟩, Ho, ⟨%d, ⟨%g, %hg, Hg⟩⟩, ⟨%e, ⟨%o, -, Hout⟩⟩⟩
  have hg' : g = (inp m).g c := hg.trans (before_scale m c d)
  subst hg'
  ihave HO := (owesAt_in m c _ _ (owed_first m c)) $$ Ho
  iapply (body_run (inp m) κ c (Q := fun _ => bodyPost m c)) $$ [Hop Hout Hw Hp Hr Hg HO]
  · iapply (start_of (inp m) κ c o)
    isplitl [Hop]; · iexact Hop
    isplitl [Hout]; · iexact Hout
    isplitl [Hw]; · iexact Hw
    isplitl [Hp]; · iexact Hp
    isplitl [Hr]; · iexact Hr
    isplitl [Hg] <;> iassumption
  iintro Hf
  iapply (finish_post m c)
  isplitl [Hf] <;> iassumption

set_option maxRecDepth 8000 in
/-- The body obligation. -/
theorem body_obligation : BodyObligation (dat m c) (defs₀ (F := F)) 𝒱₀ () Set.univ := fun t => by
  obtain rfl := fin_N t
  rw [bigSep_W0, bigSep_W0, Φ_first, show (dat m c).Φ t₀.succ = Exit m c by rw [last_eq, Φ_last]]
  simp only [owns_whole_eq]
  show bodyPre m c ⊢ wp frame (wpE (defs₀ (F := F)) 𝒱₀ c none) Set.univ (onBufs (cc0_body (F := F))) (fun _ => bodyPost m c)
  exact body_point m c

/-! ## The region's ends -/

/-- The arrays the body addresses itself, and those the call leaves alone. -/
abbrev handled : Finset (DevRef τ sig) := {Proc.devRef .tc main_v1, Proc.devRef .tc main_arg1}
abbrev unstaged : Finset (DevRef τ sig) := {Proc.devRef .tc main_arg0, Proc.devRef .tc main_arg1, Proc.devRef .tc main_arg2, Proc.devRef .tc main_v1}

theorem held_handled (W : Valuation τ sig (Elt F)) : (StableHlo.held (c : Thread nD τ) handled W : sProp 𝕄)
    = iprop(((c : Thread nD τ).loc main_v1 ↦{fullShare} W main_v1) ∗ ((c : Thread nD τ).loc main_arg1 ↦{fullShare} W main_arg1)) := by
  unfold StableHlo.held
  rw [bigSep_eq_bigSepL_of_eq [Proc.devRef .tc main_v1, Proc.devRef .tc main_arg1] (by decide) (by decide)]; rfl

theorem region_in : iprop(Pipeline.scopedRest spec0 c ∗ (∃ r, prngReg c r) ∗ StableHlo.held (c : Thread nD τ) handled (V₁ m c) ∗ (∃ κ, Opened (inp m) κ c))
    ⊢ Entry m c := by
  rw [scopedRest0_eq, held_handled]
  unfold Entry Works
  iintro ⟨Hw, Hp, ⟨H1, H2⟩, Hk⟩
  isplitl [Hk]; · iexact Hk
  isplitl [H1]; · iexact H1
  isplitl [H2]; · iexact H2
  isplitl [Hw]; · iexact Hw
  iexact Hp

theorem region_out : Exit m c ⊢ iprop(Pipeline.scopedRest spec0 c ∗ (∃ r, prngReg c r) ∗ StableHlo.held (c : Thread nD τ) handled (V₂ m c)
    ∗ Pipeline.ownSems0 (Ix := Unit) (Name := ℕ) (U := UU) (Lvl := ℕ) (Val := Elt F) (τ := τ) ownSem c ∗ semVal (barCell c) 0) := by
  rw [scopedRest0_eq, held_handled, ownSems_eq, V₂_other m c (by decide), V₂_other m c (by decide)]
  unfold Exit Works
  iintro ⟨Hb, Hq, H1, H2, Hw, Hp⟩
  isplitl [Hw]; · iexact Hw
  isplitl [Hp]; · iexact Hp
  isplitl [H1 H2]
  · isplitl [H1]; · iexact H1
    iexact H2
  isplitl [Hq] <;> iassumption

theorem call_facts : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever a device owes is owed to cells above the staging ones. -/
theorem owed_above (t : Fin (cfg0.N + 1)) (g : GSem nD τ sig) (i : Unit) (h : 0 < (dat m c).owed t g i) : i ∈ L g ∧ 0 < lv g i := by
  have e : (dat m c).owed t = if t.val = 0 then owedAll c else 0 := rfl
  rw [e] at h
  split at h
  · rcases owedAll_pos h with ⟨t, rfl⟩ | ⟨a, rfl⟩
    · exact ⟨by rw [L_tc]; exact Finset.mem_singleton_self _, by rw [lv_of (use_recv t)]; show 0 < 2 + t.val; omega⟩
    · exact ⟨by rw [L_tc]; exact Finset.mem_singleton_self _, by rw [lv_of use_bar]; show 0 < 1; omega⟩
  · exact absurd h (Nat.lt_irrefl 0)

/-- The result's array after the call holds the normalised rows. -/
theorem result_written : (dat m c).arrAt (1 : Fin 2) cfg0.N = norm (inp m) c := by
  refine (dat m c).arrAt_eq_of_covers (1 : Fin 2) _ (by decide +kernel) fun t hf y => ?_
  blk_simp
  rw [result_at]; rfl

theorem arrays_before (w : Fin 2) : (dat m c).arrAt w 0 = V₁ m c (Proc.devRef .tc (Pipeline.arrRef spec0 w)) := rfl
theorem arrays_after (w : Fin 2) : (dat m c).arrAt w cfg0.N = V₂ m c (Proc.devRef .tc (Pipeline.arrRef spec0 w)) := by
  match w with
  | ⟨0, _⟩ => exact ((dat m c).arrAt_in (0 : Fin 2) rfl _).trans (V₂_other m c (b := main_v2) (by decide)).symm
  | ⟨1, _⟩ => exact (result_written m c).trans (V₂_result m c).symm

theorem share_full (w : Fin 2) : (dat m c).share w = fullShare := by unfold Dat.share; split <;> rfl

theorem levels_low (w : Fin 2) (s : Fin (spec0 w).nbuf) : lv ((c : Thread nD τ), .dma ((spec0 w).sem s)) () ≤ 0 := by
  rw [lv_of (use_staging w s)]; exact le_rfl

theorem rest_kept (b : DevRef τ sig) (hb : b ∈ unstaged \ handled) : V₂ m c b = V₁ m c b :=
  Function.update_of_ne (fun h => by subst h; revert hb; decide) ..

set_option backward.isDefEq.respectTransparency.types false in
/-- The call. -/
def call : Pipeline.RegionSeg (pcfgs (F := F)) adm (pdats m) () defs₀ 𝒱₀ L lv 0 :=
  Pipeline.RegionSeg.ofTalk (pcfgs (F := F)) adm (pdats m) () defs₀ 𝒱₀ L lv 0 ownSem ownFacts
    handled unstaged (by decide) call_facts rfl (fun c => (body_obligation m c).loose)
    (fun _ => 0) owedAll (fun c => (owed_zero m c).trans (zero_add _).symm) (owed_last m) (fun _ => rfl) (share_full m)
    (V₁ m) (V₂ m) (rest_kept m)
    (Kept (inp m)) (fun c => semVal (barCell c) 0) (fun c => iprop(∃ κ, Opened (inp m) κ c)) (fun c => semVal (barCell c) 0)
    (fun c => (sep_mono_right (sep_mono_left (Entails.of_eq (ownSems_eq c)))).trans (kept_open (inp m) c)) (fun c => region_in m c)
    (fun c => (Entails.of_eq (Φ_last m c)).trans (region_out m c))
    (fun c => by iintro H; imodintro; iexact H)
    (fun _ => 0)
    ⟨fun c w s => by rw [L_tc]; exact Finset.mem_singleton_self _, fun c w s => levels_low c w s, fun c t g i h => owed_above m c t g i h⟩
    (fun _ => iprop(emp))
    (arrays_before m) (arrays_after m)

end Cert.AllReduce

end
-- ==== Proof.Funding.lean ====
/-
What the launch funds: the cells of the exchange, the rights to pay, and the credit of everything owed.

The rights to pay are made where they are paid to and handed to who pays: a partner along each axis for the barrier
cells and for the arrivals.
-/
module

public import proofs.«01_k».proof.Proof.Region

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the rights to pay -/

def barEmb : Dev nD ↪ GSem nD τ sig := ⟨fun c => barCell c, fun _ _ h => congrArg (fun g : GSem nD τ sig => g.1.1) h⟩
def ownEmb : Dev nD × Own ↪ GSem nD τ sig :=
  ⟨fun u => ownCell u.1 u.2, fun _ _ h => Prod.ext (congrArg (fun g : GSem nD τ sig => g.1.1) h) (ownSem_inj (congrArg Prod.snd h))⟩
/-- The barrier's cells, whose counters the launch hands over, and the kernel's own, which it opens itself. -/
def barCells : Finset (GSem nD τ sig) := Finset.univ.map barEmb
def ownCells : Finset (GSem nD τ sig) := Finset.univ.map ownEmb

theorem disjoint_cells : Disjoint (barCells : Finset (GSem nD τ sig)) ownCells := by
  unfold barCells ownCells
  rw [Finset.disjoint_left]
  rintro g h₁ h₂
  obtain ⟨c, -, rfl⟩ := Finset.mem_map.mp h₁
  obtain ⟨u, -, h⟩ := Finset.mem_map.mp h₂
  exact ownSem_ne_bar u.2 (congrArg Prod.snd h)

theorem own_funded (c : Dev nD) (k : Own) : ownCell c k ∈ (barCells ∪ ownCells : Finset (GSem nD τ sig)) :=
  Finset.mem_union_right _ (Finset.mem_map_of_mem ownEmb (Finset.mem_univ (c, k)))
theorem all_funded : allCells ⊆ (barCells ∪ ownCells : Finset (GSem nD τ sig)) := fun g hg => by
  unfold allCells at hg
  rcases Finset.mem_union.mp hg with h | hg
  · obtain ⟨c, -, rfl⟩ := Finset.mem_image.mp h
    exact Finset.mem_union_left _ (Finset.mem_map_of_mem barEmb (Finset.mem_univ c))
  rcases Finset.mem_union.mp hg with h | hg
  · obtain ⟨u, -, rfl⟩ := Finset.mem_image.mp h; exact own_funded u.1 (.inl u.2)
  rcases Finset.mem_union.mp hg with h | h
  · obtain ⟨u, -, rfl⟩ := Finset.mem_image.mp h; exact own_funded u.1 (.inr (.inl u.2))
  · obtain ⟨u, -, rfl⟩ := Finset.mem_image.mp h; exact own_funded u.1 (.inr (.inr u.2))

theorem over_barCells (Φ : GSem nD τ sig → sProp 𝕄) : bigSep barCells Φ = bigSep Finset.univ fun c : Dev nD => Φ (barCell c) := bigSep_map barEmb
theorem over_ownCells (Φ : GSem nD τ sig → sProp 𝕄) :
    bigSep ownCells Φ = bigSep Finset.univ fun c : Dev nD => bigSep Finset.univ fun k : Own => Φ (ownCell c k) := by
  unfold ownCells; rw [bigSep_map, bigSep_univ_prod]; rfl

attribute [irreducible] barCells ownCells

/-- A right to pay at one device: one of the three at its barrier cell, or the one at a cell of its own. -/
def payAt : Fin 3 ⊕ Own → SemLoc sig × Fin 3
  | .inl a => (.reg barS, a)
  | .inr k => (ownSem k, 0)
theorem payAt_inj : Function.Injective payAt := by
  rintro (a | k) (b | k') h
  · exact congrArg Sum.inl (congrArg Prod.snd h)
  · exact absurd (congrArg Prod.fst h).symm (ownSem_ne_bar k')
  · exact absurd (congrArg Prod.fst h) (ownSem_ne_bar k)
  · exact congrArg Sum.inr (ownSem_inj (congrArg Prod.fst h))
def rights : Finset (GSem nD τ sig × ℕ × Fin 3) :=
  Finset.univ.map ⟨fun u : Dev nD × (Fin 3 ⊕ Own) => (((u.1 : Thread nD τ), (payAt u.2).1), 0, (payAt u.2).2), fun _ _ h =>
    Prod.ext (congrArg (fun t : GSem nD τ sig × ℕ × Fin 3 => t.1.1.1) h)
      (payAt_inj (Prod.ext (congrArg (fun t : GSem nD τ sig × ℕ × Fin 3 => t.1.2) h) (congrArg (fun t : GSem nD τ sig × ℕ × Fin 3 => t.2.2) h)))⟩

theorem over_rights : bigSep rights (fun x => (dutyTok ER x.1 x.2.1 x.2.2 : sProp 𝕄))
    = bigSep Finset.univ fun c : Dev nD => iprop((bigSep Finset.univ fun a : Fin 3 => (dutyTok ER (barCell c) 0 a : sProp 𝕄))
      ∗ (bigSep Finset.univ fun i : Fin 3 => (dutyTok ER (copyCell c i) 0 0 : sProp 𝕄))
      ∗ (bigSep Finset.univ fun t : Fin 24 => (dutyTok ER (sendCell c t) 0 0 : sProp 𝕄))
      ∗ (bigSep Finset.univ fun t : Fin 24 => (dutyTok ER (recvCell c t) 0 0 : sProp 𝕄))) := by
  unfold rights
  rw [bigSep_map, bigSep_univ_prod]
  refine bigSep_congr fun c _ => ?_
  rw [bigSep_univ_sum]
  exact congrArg (fun X => iprop((bigSep Finset.univ fun a : Fin 3 => (dutyTok ER (barCell c) 0 a : sProp 𝕄)) ∗ X))
    (over_own fun k => (dutyTok ER (ownCell c k) 0 0 : sProp 𝕄))

/-- Anything held once per device and index, handed around by a permutation for each index. -/
theorem around {J : Type} [Fintype J] [DecidableEq J] (e : J → Dev nD ≃ Dev nD) (Φ : J → Dev nD → sProp 𝕄) :
    (bigSep Finset.univ fun c : Dev nD => bigSep Finset.univ fun j => Φ j c) = bigSep Finset.univ fun c : Dev nD => bigSep Finset.univ fun j => Φ j (e j c) := by
  have h := bigSep_univ_equiv (⟨fun u => (e u.2 u.1, u.2), fun u => ((e u.2).symm u.1, u.2), fun u => Prod.ext ((e u.2).symm_apply_apply _) rfl,
    fun u => Prod.ext ((e u.2).apply_symm_apply _) rfl⟩ : Dev nD × J ≃ Dev nD × J) fun u => Φ u.2 u.1
  rw [bigSep_univ_prod, bigSep_univ_prod] at h
  exact h

/-- The rights, where they are used. -/
theorem deal_rights : bigSep rights (fun x => (dutyTok ER x.1 x.2.1 x.2.2 : sProp 𝕄)) = bigSep Finset.univ fun c : Dev nD => Tokens (F := F) c := by
  rw [over_rights]
  unfold Tokens
  rw [bigSep_sep', bigSep_sep', bigSep_sep', bigSep_sep', bigSep_sep', bigSep_sep',
    around partner fun a c => (dutyTok ER (barCell c) 0 a : sProp 𝕄), around (fun t => partner (ax t)) fun t c => (dutyTok ER (recvCell c t) 0 0 : sProp 𝕄)]
  rfl

/-! ## The credit of what is owed -/

theorem bar_ne_recv (c d : Dev nD) (t : Fin 24) : barCell c ≠ recvCell d t := fun h => ownSem_ne_bar (.inr (.inr t)) (congrArg Prod.snd h).symm
theorem recv_inj {c d : Dev nD} {t u : Fin 24} (h : recvCell c t = recvCell d u) : c = d ∧ t = u := by
  refine ⟨congrArg (fun g : GSem nD τ sig => g.1.1) h, ?_⟩
  have := @ownSem_inj (.inr (.inr t)) (.inr (.inr u)) (congrArg Prod.snd h)
  exact Sum.inr_injective (Sum.inr_injective this)
theorem bar_iff {c d : Dev nD} (a : Fin 3) : barCell c = barCell (pr a d) ↔ d = pr a c :=
  ⟨fun h => by rw [show c = pr a d from congrArg (fun g : GSem nD τ sig => g.1.1) h, pr_pr], fun h => by rw [h, pr_pr]⟩

theorem owed_at (d : Dev nD) (g : GSem nD τ sig) : owed d 0 g () = ∑ t : Fin 24, tallyAt (recvCell (peer t d) t) () (amt t) g () := by
  unfold owed
  rw [show since 0 = Finset.univ from Finset.eq_univ_iff_forall.mpr fun t => mem_since.mpr (Nat.zero_le _), Finset.sum_apply, Finsupp.finset_sum_apply]

theorem owed_bar (d c : Dev nD) : owedAll d (barCell c) () = (if d = pr 2 c then 1 else 0) + (if d = pr 1 c then 1 else 0) + (if d = pr 0 c then 1 else 0) := by
  unfold owedAll
  simp only [Pi.add_apply, Finsupp.add_apply, owed_at, tallyAt_apply, bar_iff, and_true]
  rw [Finset.sum_eq_zero fun t _ => if_neg (bar_ne_recv _ _ _), zero_add]

theorem owed_recv (d c : Dev nD) (t : Fin 24) : owedAll d (recvCell c t) () = if d = peer t c then amt t else 0 := by
  unfold owedAll
  simp only [Pi.add_apply, Finsupp.add_apply, owed_at, tallyAt_apply, and_true]
  rw [if_neg fun h => bar_ne_recv _ _ _ h.symm, if_neg fun h => bar_ne_recv _ _ _ h.symm, if_neg fun h => bar_ne_recv _ _ _ h.symm, add_zero, add_zero, add_zero,
    Finset.sum_eq_single t (fun u _ hu => if_neg fun h => hu (recv_inj h).2.symm) fun h => absurd (Finset.mem_univ t) h]
  by_cases h : d = peer t c
  · subst h; rw [peer_peer, if_pos rfl, if_pos rfl]
  · rw [if_neg h, if_neg fun e => h (by rw [(recv_inj e).1, peer_peer])]

theorem credit_bar (c : Dev nD) : tallyOn (barCell c) (launchCredit (Pipeline.owing owedAll) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]
theorem credit_recv (c : Dev nD) (t : Fin 24) :
    tallyOn (recvCell c t) (launchCredit (Pipeline.owing owedAll) 0 (recvCell c t)) = (tallyAt (recvCell c t) () (amt t) : CellTallies nD τ sig Unit) := by
  unfold tallyAt; refine congrArg _ (Finsupp.ext fun u => ?_); cases u
  rw [Pipeline.launchCredit_owing, Finsupp.single_eq_same, Finset.sum_congr rfl fun d _ => owed_recv d c t]
  simp only [Finset.sum_ite_eq', Finset.mem_univ, if_true]

/-- The launch's credit, at the barrier cell and the arrivals. -/
theorem credits (c : Dev nD) : (Pipeline.launchCred owedAll c : sProp 𝕄) ⊢ Credits (F := F) c := by
  unfold Pipeline.launchCred Credits
  rw [bigSep_univ_at _ (SemLoc.reg barS), credit_bar]
  refine sep_mono_right ?_
  have sub : (Finset.univ.image fun t : Fin 24 => (SemLoc.dma (recvSem t) : SemLoc sig)) ⊆ Finset.univ.erase (SemLoc.reg barS) := fun g hg => by
    obtain ⟨t, -, rfl⟩ := Finset.mem_image.mp hg
    exact Finset.mem_erase.mpr ⟨ownSem_ne_bar (.inr (.inr t)), Finset.mem_univ _⟩
  refine (bigSep_subset sub).trans ?_
  rw [bigSep_image_of_injOn fun t _ u _ h => (recv_inj (c := c) (d := c) (congrArg (Prod.mk (c : Thread nD τ)) h)).2]
  exact Entails.of_eq (bigSep_congr fun t _ => by rw [credit_recv])

end Cert.AllReduce

end
-- ==== Proof.Launch.lean ====
/-
The run of the whole program on the eight devices.

The launch opens the barrier cells and deals every device its part. The host's reshapes come first, then the call. At
the end every device's result array holds the normalised rows, its arguments are what they were, and every semaphore
counter is zero.
-/
module

public import proofs.«01_k».proof.Proof.Funding

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The arrays in the devices' main memories. -/
abbrev arrays : Finset (DevRef τ sig) := Pipeline.ucRefs τ sig

theorem held_all (W : Valuation τ sig (Elt F)) : (StableHlo.held (c : Thread nD τ) arrays W : sProp 𝕄)
    = iprop(StableHlo.held (c : Thread nD τ) (Pipeline.arrRefs (τ := τ) spec0) W ∗ StableHlo.held (c : Thread nD τ) unstaged W) := by
  unfold StableHlo.held
  rw [show (arrays : Finset (DevRef τ sig)) = Pipeline.arrRefs (τ := τ) spec0 ∪ unstaged from by decide, bigSep_union (by decide)]
  rfl

/-- What a device takes through the host's operations besides its arrays. -/
abbrev beside : sProp 𝕄 :=
  iprop(Kept (inp m) c ∗ (∃ r, prngReg c r) ∗ ∃ W, owes (c : Thread nD τ) (owedAll c) W)

theorem host_sub : ∀ op ∈ (hostOps0 : List (HloOp τ sig (Elt F))), op.bufs ⊆ arrays := fun op h =>
  Pipeline.sub_ucRefs op (List.forall_iff_forall_mem.mp hostOps0_sub op h)
theorem host_fresh : ∀ op ∈ (hostOps0 : List (HloOp τ sig (Elt F))), op.fresh = ∅ := fun op h =>
  List.forall_iff_forall_mem.mp hostOps0_fresh op h

/-- The host's part. -/
def host : Pipeline.HostSeg (Ix := Unit) (Name := ℕ) (U := UU) (Lvl := ℕ) (pcfgs (F := F)) defs₀ 𝒱₀ L lv :=
  Pipeline.HostSeg.ofOps _ _ _ _ _ arrays hostOps0 host_sub host_fresh (V₀ m) (beside m)

theorem call_pre : iprop(StableHlo.held (c : Thread nD τ) arrays (V₁ m c) ∗ beside m c) ⊢ (call m).pre c := by
  show _ ⊢ iprop(StableHlo.held (c : Thread nD τ) (Pipeline.arrRefs (τ := τ) spec0) (V₁ m c) ∗ (∃ r, prngReg c r)
    ∗ (StableHlo.held (c : Thread nD τ) unstaged (V₁ m c) ∗ emp) ∗ Kept (inp m) c ∗ ∃ W, owes (c : Thread nD τ) (0 + owedAll c) W)
  rw [zero_add, held_all]
  iintro ⟨⟨Ha, Hu⟩, Hk, Hp, HO⟩
  isplitl [Ha]; · iexact Ha
  isplitl [Hp]; · iexact Hp
  isplitl [Hu]
  · isplitl [Hu]; · iexact Hu
    iempintro
  isplitl [Hk] <;> iassumption

/-- What a device ends with. -/
abbrev Ended : sProp 𝕄 := iprop(StableHlo.held (c : Thread nD τ) arrays (V₂ m c) ∗ semVal (barCell c) 0)

theorem call_post : (call m).post c ⊢ iprop(Ended m c ∗ ∃ W, owes (c : Thread nD τ) (0 : CellTallies nD τ sig Unit) W) := by
  show iprop(StableHlo.held (c : Thread nD τ) (Pipeline.arrRefs (τ := τ) spec0) (V₂ m c) ∗ (∃ r, prngReg c r)
    ∗ (StableHlo.held (c : Thread nD τ) unstaged (V₂ m c) ∗ emp) ∗ semVal (barCell c) 0 ∗ ∃ W, owes (c : Thread nD τ) (0 : CellTallies nD τ sig Unit) W) ⊢ _
  unfold Ended
  rw [held_all]
  iintro ⟨Ha, -, ⟨Hu, -⟩, Hb, HO⟩
  isplitr [HO]
  · isplitl [Ha Hu]
    · isplitl [Ha] <;> iassumption
    iexact Hb
  iexact HO

abbrev segs : List (Pipeline.Seg (pcfgs (F := F)) adm (pdats m) () defs₀ 𝒱₀ L lv) := [.host (host m), .region (call m)]

/-! ## The launch -/

def u₀ : UU :=
  (initOf (Pipeline.cells (Pipeline.pin (pcfgs (F := F)) adm) cellOf_inj) (Pipeline.launchToks (Pipeline.pin (pcfgs (F := F)) adm) cellOf_inj),
    launchOf barCells ownCells rights)

/-- Something one device holds, as what every device holds. -/
def heldBy (d : Dev nD) (X : sProp 𝕄) (c : Dev nD) : sProp 𝕄 := if c = d then X else iprop(emp)
theorem over_heldBy (d : Dev nD) (X : sProp 𝕄) : bigSep Finset.univ (heldBy d X) = X := by
  rw [bigSep_univ_at _ d, bigSep_congr (s := Finset.univ.erase d) (Ψ := fun _ => (BI.emp : sProp 𝕄))
      fun c hc => by unfold heldBy; rw [if_neg (Finset.ne_of_mem_erase hc)]; rfl, BI.bigSep_emp_const]
  unfold heldBy; rw [if_pos rfl]
  exact BI.equiv_iff.mp sep_emp
/-- The exchange's part of the launch element, kept whole until the cells are opened. -/
abbrev seed : Dev nD → sProp 𝕄 := heldBy 0 (BI.own (ER (launchOf barCells ownCells rights)))

/-- What a device holds at the launch besides its counters and its part of the exchange. -/
def holding : sProp 𝕄 :=
  iprop(StableHlo.held (c : Thread nD τ) arrays (V₀ m c) ∗ Credits (F := F) c ∗ owes (c : Thread nD τ) (owedAll c) ∅ ∗ ∃ r, prngReg c r)
/-- What every device may rely on. -/
def shared (I : Inp F) (κ : GSem nD τ sig → ℕ) : sProp 𝕄 := iprop(Env I κ ∗ Marks (F := F))
instance shared_persistent (I : Inp F) (κ : GSem nD τ sig → ℕ) : BI.Persistent (shared I κ) := by unfold shared; infer_instance

/-- What a device starts the program with. -/
abbrev Begun : sProp 𝕄 := iprop(StableHlo.held (c : Thread nD τ) arrays (V₀ m c) ∗ beside m c)

theorem begin_of (κ : GSem nD τ sig → ℕ) : iprop(shared (inp m) κ ∗ (Deal (F := F) c ∗ holding m c)) ⊢ Begun m c := by
  unfold shared holding Begun beside Kept
  iintro ⟨⟨#HE, #HM⟩, Hd, Hh, Hc, HO, Hp⟩
  isplitl [Hh]; · iexact Hh
  isplitl [Hd Hc]
  · isplitl [Hd]
    · iexists κ
      isplitr; · iexact HE
      isplitr; · iexact HM
      iexact Hd
    iexact Hc
  isplitl [Hp]; · iexact Hp
  iexists ∅; iexact HO

theorem bar_counter : (unscopedSems0 c : sProp 𝕄) = semVal (barCell c) 0 := by
  unfold unscopedSems0
  rw [show (Finset.univ.filter fun sm : SemLoc sig => ¬ sm.isScoped .tc = true) = {SemLoc.reg barS} from by decide, bigSep_singleton]

theorem at_launch : iprop(unscopedBufs c (fun b => m ((c : Thread nD τ).loc b)) ∗ unscopedSems0 c
      ∗ owes (c : Thread nD τ) (owedAll c) ∅ ∗ Pipeline.launchCred owedAll c ∗ prngReg c (ρ c) ∗ seed (F := F) c)
    ⊢ iprop(holding m c ∗ (semVal (barCell c) 0 ∗ seed (F := F) c)) := by
  rw [show unscopedBufs c (fun b => m ((c : Thread nD τ).loc b)) = StableHlo.held (c : Thread nD τ) arrays (V₀ m c) from Pipeline.unscopedBufs_held c (V₀ m c),
    bar_counter]
  unfold holding
  iintro ⟨Hh, Hv, HO, Hc, Hp, Hs⟩
  isplitr [Hv Hs]
  · isplitl [Hh]; · iexact Hh
    isplitl [Hc]; · iapply (credits (F := F) c); iexact Hc
    isplitl [HO]; · iexact HO
    iexists (ρ c); iexact Hp
  isplitl [Hv] <;> iassumption

attribute [local irreducible] allCells

theorem all_invariants (I : Inp F) (κ : GSem nD τ sig → ℕ) : (bigSep (barCells ∪ ownCells) fun g => (cellInv ER (Rd I) (κ g) g : sProp 𝕄))
    ⊢ bigSep allCells fun g => (cellInv ER (Rd I) (κ g) g : sProp 𝕄) := by
  exact bigSep_subset all_funded
theorem marks_of : (bigSep barCells fun g => (reached ER g 0 : sProp 𝕄)) ⊢ Marks (F := F) := Entails.of_eq (over_barCells fun g => (reached ER g 0 : sProp 𝕄))
theorem shared_of (I : Inp F) (κ : GSem nD τ sig → ℕ) {X Y : sProp 𝕄} (hX : X ⊢ bigSep allCells fun g => (cellInv ER (Rd I) (κ g) g : sProp 𝕄))
    (hY : Y ⊢ Marks (F := F)) : iprop(X ∗ Y ∗ levAts L lv) ⊢ shared I κ := by
  unfold shared Env
  iintro ⟨HI, HR, HL⟩
  isplitl [HI HL]
  · isplitl [HI]; · iapply hX $$ HI
    iexact HL
  iapply hY $$ HR
theorem deals_of : iprop((bigSep Finset.univ fun c : Dev nD => (atPos ER (barCell c) 0 ∅ 0 : sProp 𝕄))
      ∗ (bigSep Finset.univ fun c : Dev nD => bigSep Finset.univ fun k : Own => (openTok ER (ownCell c k) : sProp 𝕄))
      ∗ bigSep Finset.univ fun c : Dev nD => Tokens (F := F) c) ⊢ bigSep Finset.univ fun c : Dev nD => Deal (F := F) c := by
  rw [← bigSep_sep', ← bigSep_sep']; exact Entails.refl _

/-- The cells opened and everything dealt. -/
theorem launch :
    iprop((bigSep Finset.univ fun c : Dev nD => iprop(unscopedBufs c (fun b => m ((c : Thread nD τ).loc b)) ∗ unscopedSems0 c
          ∗ owes (c : Thread nD τ) (owedAll c) ∅ ∗ Pipeline.launchCred owedAll c ∗ prngReg c (ρ c) ∗ seed (F := F) c)) ∗ levAts L lv)
      ⊢ (|={Set.univ}=> bigSep Finset.univ (Begun m) : sProp 𝕄) := by
  refine (sep_mono_left (bigSep_mono fun c _ => at_launch m ρ c)).trans ?_
  rw [bigSep_sep', bigSep_sep', over_heldBy]
  iintro ⟨⟨HB, Hv, Hu⟩, #Hlev⟩
  ihave Hv := (Entails.of_eq (over_barCells fun g => (semVal g 0 : sProp 𝕄)).symm) $$ Hv
  imod (Rounds.fund_launch ER (Rd (inp m)) disjoint_cells (fun g _ h => h) rights) $$ [Hv Hu] with ⟨%κ, -, #Hinv, #Hr, Hat, Hopen, Htok⟩
  · isplitl [Hv] <;> iassumption
  ihave Hat := (Entails.of_eq (over_barCells fun g => (atPos ER g 0 ∅ 0 : sProp 𝕄))) $$ Hat
  ihave Hopen := (Entails.of_eq (over_ownCells fun g => (openTok ER g : sProp 𝕄))) $$ Hopen
  ihave Htok := (Entails.of_eq (deal_rights (F := F))) $$ Htok
  imodintro
  iapply (bigSep_with_persistent (R := shared (inp m) κ) (Φ := fun c => iprop(Deal (F := F) c ∗ holding m c)) fun c _ => begin_of m c κ)
  isplitr
  · iapply (shared_of (inp m) κ (all_invariants (inp m) κ) (marks_of (F := F)))
    isplitr; · iexact Hinv
    isplitr; · iexact Hr
    iexact Hlev
  iapply (Entails.of_eq (bigSep_sep' Finset.univ (fun c => Deal (F := F) c) (holding m)).symm)
  isplitr [HB]
  · iapply (deals_of (F := F))
    isplitl [Hat]; · iexact Hat
    isplitl [Hopen] <;> iassumption
  iexact HB

/-! ## The run -/

theorem unscoped_bar : ∀ sm : SemLoc sig, sm.isScoped .tc = false → sm = .reg barS := by decide

/-- The arrays a final memory is read at. -/
theorem held_read (W : Valuation τ sig (Elt F)) : (StableHlo.held (c : Thread nD τ) arrays W : sProp 𝕄)
    ⊢ iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_v3 ↦{fullShare} W main_v3)) := by
  unfold StableHlo.held
  refine (bigSep_subset (t := {Proc.devRef .tc main_arg0, Proc.devRef .tc main_arg1, Proc.devRef .tc main_arg2, Proc.devRef .tc main_v3}) (by decide)).trans ?_
  rw [bigSep_eq_bigSepL_of_eq [Proc.devRef .tc main_arg0, Proc.devRef .tc main_arg1, Proc.devRef .tc main_arg2, Proc.devRef .tc main_v3] (by decide) (by decide)]
  exact Entails.refl _

/-- What a final memory holds at device `c`. -/
abbrev Final (s : MemSt nD τ sig (Elt F)) : Prop :=
  s.mem ((c : Thread nD τ).loc main_arg0) = V₂ m c main_arg0 ∧ s.mem ((c : Thread nD τ).loc main_arg1) = V₂ m c main_arg1
    ∧ s.mem ((c : Thread nD τ).loc main_arg2) = V₂ m c main_arg2 ∧ s.mem ((c : Thread nD τ).loc main_v3) = V₂ m c main_v3 ∧ s.sem (barCell c) = 0

theorem final_read (s : Phys nD τ sig (Elt F)) : iprop(Ended m c ∗ SI s) ⊢ (|={Set.univ}=> iprop(⌜Final m c s.mem⌝ ∗ SI s) : sProp 𝕄) := by
  unfold Ended
  refine (sep_mono_left (sep_mono_left (held_read c (V₂ m c)))).trans ?_
  iintro ⟨⟨⟨H0, H1, H2, H3⟩, Hb⟩, HSI⟩
  icombine HSI H0 gives %h0
  icombine HSI H1 gives %h1
  icombine HSI H2 gives %h2
  icombine HSI H3 gives %h3
  icombine HSI Hb gives %hb
  imodintro
  isplitr
  · ipureintro
    exact ⟨Buf.eq_of_forall_mem_univ h0, Buf.eq_of_forall_mem_univ h1, Buf.eq_of_forall_mem_univ h2, Buf.eq_of_forall_mem_univ h3, by simpa using hb⟩
  iexact HSI

theorem kept_arg {b : Ref sig .tc} (h : (Proc.devRef .tc b : DevRef τ sig) ≠ Proc.devRef .tc main_v3) (h' : V₁ m c b = m ((c : Thread nD τ).loc b)) :
    V₂ m c b = m ((c : Thread nD τ).loc b) := (V₂_other m c h).trans h'

set_option backward.isDefEq.respectTransparency.types false in
/-- The run: it ends, every device's result holds the normalised rows, the arguments are unchanged and every counter is zero. -/
theorem run_main : θ_run defs (onTc (τ := τ) (main (F := F))) (⟨m, fun _ => 0, ρ⟩ : MemSt nD τ sig (Elt F))
    (fun r => (∀ c : Dev nD, r.2.mem ((c : Thread nD τ).loc main_v3) = norm (inp m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (call m) rfl c])
    (by simp only [segs, Pipeline.Seg.pipes_host, Pipeline.Seg.pipes_region, Pipeline.Seg.pipes_nil]; decide)
    (O₀ := owedAll) (hL := L_of_ne) (G := seed) (u₀ := u₀)
    (hu₀ := by
      unfold u₀
      iintro Hu
      ihave H := (ownU_pair _ _) $$ Hu
      icases H with ⟨HP, HX⟩
      imodintro
      isplitl [HP]; · iexact HP
      rw [over_heldBy]; iexact HX)
    (T₀ := Begun m) (Tₙ := Ended m)
    (hch := ⟨fun c => .rfl, fun c => call_pre m c, fun c => call_post m c⟩)
    (hinit := launch m ρ)
    (QY := Final m)
    (hfin := fun c s => final_read m c s)
    (hQ := fun s h hs => ⟨fun c => by
        obtain ⟨h0, h1, h2, h3, -⟩ := h c
        exact ⟨h3.trans (V₂_result m c), h0.trans (kept_arg m c (by decide) (V_main_arg0 m c)), h1.trans (kept_arg m c (by decide) (V_main_arg1 m c)),
          h2.trans (kept_arg m c (by decide) (V_main_arg2 m c))⟩,
      sem_eq_zero hs fun c sm hsm => by
        obtain rfl := unscoped_bar sm hsm
        exact (h c).2.2.2.2⟩)

end Cert.AllReduce

end
-- ==== Proof.Frames.lean ====
/-
The frames: each of the three programs ends, on every device, with its arguments as they were and every counter zero.

The kernel's run is proved once, over any float values. The kernel and its exact reading are the same text, so the
run at words and the run at extended reals are two instances of it.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

/-- The kernel, over any float values: it terminates with its arguments unchanged and its counters at zero. -/
theorem quiet {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2))
        ∧ r.2.sem = fun _ => 0) :=
  (θ_run Cert.KernelIdeal.defs _ _).mono (fun _ h => ⟨fun c => (h.1 c).2, h.2⟩) (Cert.AllReduce.run_main m ρ)

/-- The two printed texts have one table of bodies, -/
theorem bodies_eq : Cert.Kernel.defs₀ (F := Bits) = Cert.KernelIdeal.defs₀ (F := Bits) := by
  unfold Cert.Kernel.defs₀ Cert.KernelIdeal.defs₀
  refine congrArg _ (funext fun l => funext fun a => ?_)
  match l, a with
  | 0, (_, _) => exact rfl
/-- so one table with the pipelines' bodies added. -/
theorem defs_eq : Cert.Kernel.defs (F := Bits) = Cert.KernelIdeal.defs (F := Bits) := by
  unfold Cert.Kernel.defs Cert.KernelIdeal.defs
  exact congrArg (Pipeline.defs _) bodies_eq

/-- So the kernel at words does. -/
theorem frame_kernel : Cert.quiescent_Kernel := fun m ρ _ => by
  rw [defs_eq]
  exact quiet (F := Bits) m ρ

/-- So the kernel at extended reals does. -/
theorem frame_ideal : Cert.quiescent_KernelIdeal := fun m ρ _ => quiet (F := Ideal) m ρ

/-- The reference, which declares no semaphore at all, ends so too. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.Proof

end
-- ==== Proof.Roots.lean ====
/-
Facts about extended reals: dividing by the root of a positive number is multiplying by its reciprocal root, a mean of
squares plus a positive number is positive, and the real numbers the programs' two constants are.
-/
module

public import Idealize.ShloMosaic.Lib.Pointwise

@[expose] public section

noncomputable section

namespace Cert.AllReduce

open Idealize.ShloMosaic

/-- The word of 2048.0, the length of a row. -/
theorem length_eq : Ideal.ofBits .f32 0x45000000#32 = ((2048 : ℝ) : EReal) := by
  simp [Ideal.ofBits, Ideal.ieee, -EReal.coe_mul]; norm_num

/-- The word added under the root is positive. -/
theorem eps_pos : 0 < Ideal.ofBits .f32 0x358637BD#32 := by
  simp [Ideal.ofBits, Ideal.ieee, -EReal.coe_mul]

/-- A square is not negative, infinite or not. -/
theorem sq_nonneg (y : EReal) : 0 ≤ y * y := by
  rcases le_total 0 y with h | h
  · exact mul_nonneg h h
  · have h' : 0 ≤ -y := by simpa using EReal.neg_le_neg_iff.mpr h
    rw [← neg_mul_neg]; exact mul_nonneg h' h'

/-- The number under the root: the mean of a row's squares, and a little more. -/
def radicand (y : Fin 2048 → EReal) : EReal :=
  Ideal.div (∑ k, y k * y k) (Ideal.ofBits .f32 0x45000000#32) + Ideal.ofBits .f32 0x358637BD#32

/-- It is positive. -/
theorem radicand_pos (y : Fin 2048 → EReal) : 0 < radicand y := by
  unfold radicand
  rw [length_eq, Ideal.div_coe (by norm_num)]
  refine lt_of_lt_of_le eps_pos (le_add_of_nonneg_left (mul_nonneg (Finset.sum_nonneg fun k _ => sq_nonneg (y k)) ?_))
  exact EReal.coe_nonneg.mpr (by norm_num)

/-- Dividing by the root of a positive number is multiplying by its reciprocal root: also at infinity, where both give
the product with zero. -/
theorem div_sqrt (y : EReal) {t : EReal} (ht : 0 < t) : Ideal.div y (Ideal.sqrt t) = y * Ideal.rsqrt t := by
  induction t using EReal.rec with
  | bot => exact absurd ht (by simp)
  | top => simp [Ideal.div]
  | coe r =>
    have hr : 0 < r := EReal.coe_pos.mp ht
    rw [Ideal.sqrt_coe, Ideal.rsqrt_coe, if_neg hr.not_gt, if_neg hr.not_gt, if_neg hr.ne',
      Ideal.div_coe (Real.sqrt_pos.mpr hr).ne', one_div]

end Cert.AllReduce

end
-- ==== Proof.Normal.lean ====
/-
One block normalised, at extended reals: what the kernel writes at row `r`, column `l` of a block is the element times
the reciprocal root of its row's radicand, times the scale at the column.
-/
module

public import proofs.«01_k».proof.Proof.Contents
public import proofs.«01_k».proof.Proof.Roots

@[expose] public section

noncomputable section

namespace Cert.AllReduce

open Cert.KernelIdeal Cert.KernelIdeal.Gen
open Idealize.ShloMosaic

set_option maxRecDepth 16384 in
/-- A block's rows normalised and scaled, at one element. -/
theorem pay7_ideal (v : Vec Ideal S256x2048 .bf16) (g : Vec Ideal S1x2048 .f32) (r : Fin 256) (l : Fin 2048) :
    k0_pay7 v g (ix2 r l) = v (ix2 r l) * Ideal.rsqrt (radicand fun k => v (ix2 r k)) * g (ix2 0 l) := by
  unfold radicand
  pointwise [k0_pay7]

end Cert.AllReduce

end
-- ==== Proof.Reference.lean ====
/-
What the reference computes, at one element of its result.
-/
module

public import proofs.«01_k».proof.Proof.Roots
public import proofs.«01_k».proof.Proof.Gen.ReferenceIdeal.Run

@[expose] public section

noncomputable section

namespace Cert.AllReduce

open Cert.ReferenceIdeal Cert.ReferenceIdeal.Gen
open Idealize.ShloMosaic

/-- The two partial sums and the residual, added. -/
def added (a : FVec Ideal S2x2048x2048 .f32) (r : FVec Ideal S2048x2048 .f32) : FVec Ideal S2048x2048 .f32 :=
  addf (Host.reduceAdd a (constant S_ .f32 0x00000000#32) reducesTo_S2x2048x2048_S2048x2048_d0 h_S_) r

/-- The reference's result, as its run leaves it. -/
def result (a : FVec Ideal S2x2048x2048 .f32) (r : FVec Ideal S2048x2048 .f32) (g : FVec Ideal S2048 .f32) :
    FVec Ideal S2048x2048 .bf16 :=
  truncf .bf16 (mulf (Host.divf (added a r) (broadcastInDim S2048x2048 ![0, 1] bcast_S2048x1_S2048x2048_0_1
      (Host.sqrt (addf (Host.divf (broadcastInDim S2048x1 ![0] bcast_S2048_S2048x1_0
            (Host.reduceAdd (mulf (added a r) (added a r)) (constant S_ .f32 0x00000000#32) reducesTo_S2048x2048_S2048_d1 h_S_))
          (broadcastInDim S2048x1 ![] bcast_S_S2048x1 (constant S_ .f32 0x45000000#32)))
        (broadcastInDim S2048x1 ![] bcast_S_S2048x1 (constant S_ .f32 0x358637BD#32))))))
    (broadcastInDim S2048x2048 ![0, 1] bcast_S1x2048_S2048x2048_0_1 (broadcastInDim S1x2048 ![1] bcast_S2048_S1x2048_1 g)))
    bitsLt_bf16_f32

/-- The sum at one element. -/
theorem added_apply (a : FVec Ideal S2x2048x2048 .f32) (r : FVec Ideal S2048x2048 .f32) (i k : Fin 2048) :
    added a r (ix2 i k) = a (ix3 0 i k) + a (ix3 1 i k) + r (ix2 i k) := by
  pointwise [added]
  rw [Fin.sum_univ_two]

set_option maxRecDepth 16384 in
/-- The result at one element: the sum over the root of its row's radicand, times the scale at the column. -/
theorem result_apply (a : FVec Ideal S2x2048x2048 .f32) (r : FVec Ideal S2048x2048 .f32) (g : FVec Ideal S2048 .f32) (i l : Fin 2048) :
    result a r g (ix2 i l)
      = Ideal.div (added a r (ix2 i l)) (Ideal.sqrt (radicand fun k => added a r (ix2 i k))) * g (ix1 l) := by
  unfold radicand
  pointwise [result]

end Cert.AllReduce

end
-- ==== Proof.Equation.lean ====
/-
The equation: what every device's result array holds when the kernel ends is what the reference computes.

The reference's arguments are `a` (two partial sums), `r` and `g`; the kernel's devices hold the partial sum of their
own `y` coordinate, the whole of `r` and the whole of `g`. A block's owner adds the residual to its own partial sum and
then the partner's partial sum, and the two together are both of them; the rest is one formula per element.
-/
module

public import proofs.«01_k».proof.Proof.Region
public import proofs.«01_k».proof.Proof.Normal
public import proofs.«01_k».proof.Proof.Reference
public import Idealize.ShloMosaic.Lib.Layout
public import Idealize.ShloMosaic.Lib.StableHlo.ReadAt

@[expose] public section

noncomputable section

namespace Cert.AllReduce

open Cert.KernelIdeal Cert.KernelIdeal.Gen
open Idealize.ShloMosaic
open Idealize.ShloMosaic.TcCoe
open Idealize.SL.Sem

/-! ## The arguments -/

/-- A device's `y` coordinate: which of the two partial sums it holds. -/
def half (c : Dev nD) : Fin 2 := ⟨c.val / 2 % 2, Nat.mod_lt _ (by decide)⟩

/-- The partner along `y` holds the other one. -/
theorem halves (c : Dev nD) : (half c = 0 ∧ half (pr 1 c) = 1) ∨ (half c = 1 ∧ half (pr 1 c) = 0) := by
  revert c; decide

variable (m : (ℓ : Loc nD τ sig) → Buf (Elt Ideal) ℓ)
variable (a : FVec Ideal ⟨3, ![2, 2048, 2048]⟩ .f32) (r : FVec Ideal S2048x2048 .f32) (g : FVec Ideal S2048 .f32)

/-- The kernel's devices hold the reference's arguments, each its own part. -/
structure Agree : Prop where
  partials : ∀ c : Dev nD, m ((c : Thread nD τ).loc main_arg0)
    = Layout.blockN ⟨3, ![1, 2048, 2048]⟩ ⟨3, ![2, 2048, 2048]⟩ (Layout.meshBlock [2, 2, 2] ![[1], [], []] c) a
  residual : ∀ c : Dev nD, m ((c : Thread nD τ).loc main_arg1) = r
  scale : ∀ c : Dev nD, m ((c : Thread nD τ).loc main_arg2) = g

variable {m a r g}
variable (h : Agree m a r g)
include h

/-- A device's partial sum is the one of its `y` coordinate. -/
theorem inp_p (d : Dev nD) (i k : Fin 2048) : (inp m).p d (ix2 i k) = a (ix3 (half d) i k) := by
  have e : (inp m).p d (ix2 i k) = m ((d : Thread nD τ).loc main_arg0) (ix3 0 i k) := by
    show StableHlo.after hostOps0 (V₀ m d) (Proc.devRef .tc main_v1) (ix2 i k) = _
    unfold hostOps0
    after_reads_at
  rw [e, h.partials d, Layout.blockN_apply]
  refine congrArg a (funext fun x => Fin.ext ?_)
  match x with
  | ⟨0, _⟩ => show (d.val / 2 % 2 * 1 + 0) * 1 + 0 = d.val / 2 % 2; omega
  | ⟨1, _⟩ => show 0 * 2048 + i.val = i.val; omega
  | ⟨2, _⟩ => show 0 * 2048 + k.val = k.val; omega

/-- A device's residual is the whole residual. -/
theorem inp_r (d : Dev nD) : (inp m).r d = r := (V_main_arg1 m d).trans (h.residual d)

/-- A device's scale is the scale, as one row. -/
theorem inp_g (d : Dev nD) (l : Fin 2048) : (inp m).g d (ix2 0 l) = g (ix1 l) := by
  have e : (inp m).g d (ix2 0 l) = m ((d : Thread nD τ).loc main_arg2) (ix1 l) := by
    show StableHlo.after hostOps0 (V₀ m d) (Proc.devRef .tc main_v2) (ix2 0 l) = _
    unfold hostOps0
    after_reads_at
  rw [e, h.scale d]

/-! ## The result -/

omit h in
/-- At extended reals nothing is rounded: what a device sends is the partner's rows as they are. -/
theorem sent_ideal (I : Inp Ideal) (c : Dev nD) (j : S256x2048.Idx) : sent I c j = I.p c (inBlock (blk (pr 1 c)) j) := by
  show k0_pay2 (F := Ideal) _ _ = _
  pointwise [k0_pay2]
  rfl

omit h in
/-- What it keeps is its own rows plus the residual's. -/
theorem kept_ideal (I : Inp Ideal) (c : Dev nD) (j : S256x2048.Idx) :
    kept I c j = I.p c (inBlock (blk c) j) + I.r c (inBlock (blk c) j) := by
  show k0_pay3 (F := Ideal) _ _ _ = _
  pointwise [k0_pay3]
  rfl

/-- The gathered sums are the reference's. -/
theorem whole_ideal (i : S2048x2048.Idx) : whole (inp m) i = added a r i := by
  have e : whole (inp m) i = ((inp m).p (own (blockOf i)) i + r i) + (inp m).p (pr 1 (own (blockOf i))) i := by
    show kept (inp m) _ _ + sent (inp m) _ _ = _
    rw [kept_ideal, sent_ideal, pr_pr, blk_own, inBlock_local, inp_r h]
  rw [e]
  obtain ⟨p, q, rfl⟩ : ∃ p q : Fin 2048, i = ix2 p q := ⟨i 0, i 1, eq_ix2 i⟩
  rw [inp_p h, inp_p h, added_apply]
  rcases halves (own (blockOf (ix2 p q))) with ⟨e0, e1⟩ | ⟨e0, e1⟩ <;> rw [e0, e1]
  · exact add_right_comm _ _ _
  · rw [add_right_comm, add_comm (a (ix3 1 _ _))]

omit h in
/-- Where an element is in its block, by coordinates. -/
theorem local_ix2 (p q : Fin 2048) : local' (ix2 p q) = ix2 (rowIn (ix2 p q)) q := eq_ix2 _

omit h in
/-- A row of a block is a row of the array. -/
theorem inBlock_ix2 (p q k : Fin 2048) : inBlock (blockOf (ix2 p q)) (ix2 (rowIn (ix2 p q)) k) = ix2 p k := by
  have e : blockOf (ix2 p q) = blockOf (ix2 p k) := rfl
  have e' : ix2 (rowIn (ix2 p q)) k = local' (ix2 p k) := (local_ix2 p k).symm
  rw [e, e', inBlock_local]

/-- Every device's result is the reference's result. -/
theorem norm_ideal (c : Dev nD) : norm (inp m) c = result a r g := by
  funext i
  obtain ⟨p, q, rfl⟩ : ∃ p q : Fin 2048, i = ix2 p q := ⟨i 0, i 1, eq_ix2 i⟩
  have hw : ∀ k : Fin 2048, rows (blockOf (ix2 p q)) (whole (inp m)) (ix2 (rowIn (ix2 p q)) k) = added a r (ix2 p k) := fun k => by
    show whole (inp m) (inBlock (blockOf (ix2 p q)) (ix2 (rowIn (ix2 p q)) k)) = _
    rw [inBlock_ix2, whole_ideal h]
  show k0_pay7 (F := Ideal) _ _ (local' (ix2 p q)) = _
  rw [local_ix2, pay7_ideal, funext hw, hw q, inp_g h, result_apply, div_sqrt _ (radicand_pos _)]

end Cert.AllReduce

end
-- ==== Proof.lean ====
/-
The proof of `Cert.Claim`: the kernel, at words and at extended reals, and the reference end with their arguments
unchanged and every counter at zero; and at extended reals, from arguments that agree, every device's result is the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From arguments that agree, every device's result array ends at the reference's result, element for element. -/
theorem algebraic : Cert.algebraic_KernelIdeal_ReferenceIdeal := fun m ρ m' ρ' _ hagree =>
  have agree : Cert.AllReduce.Agree m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2)) :=
    ⟨fun c => (hagree c).1, fun c => (hagree c).2.1, fun c => (hagree c).2.2⟩
  ⟨_, (θ_run Cert.KernelIdeal.defs _ _).mono (fun _ h c => ⟨(h.1 c).1.trans (Cert.AllReduce.norm_ideal agree c), (h.1 c).2⟩)
      (Cert.AllReduce.run_main (F := Ideal) m ρ),
    (θ_run Cert.ReferenceIdeal.defs _ _).mono (fun _ h => ⟨(h 0).1, (h 0).2⟩) (Cert.ReferenceIdeal.Value.run m' ρ')⟩

/-- Everything claimed. -/
theorem claim : Cert.Claim := ⟨Cert.Kernel.Gen.facts, Cert.KernelIdeal.Gen.facts, Cert.ReferenceIdeal.Gen.facts,
  frame_kernel, frame_ideal, frame_reference, trivial, algebraic⟩

end Cert.Proof

end
